-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 8192]⟩ ⟨2, ![1024, 65536]⟩ 1 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S512x1024 : Shape := ⟨2, ![512, 1024]⟩
abbrev S1024x8192 : Shape := ⟨2, ![1024, 8192]⟩
abbrev S_ : Shape := ⟨0, ![]⟩

class Facts : Prop where
  bitsLt_bf16_f32 : FTy.bits .bf16 < FTy.bits .f32
  bcast_S_S512x1024 : S_.BroadcastsInDim S512x1024 (![] : Fin 0 → Fin S512x1024.rank)
  reducesTo_S512x1024_S_d0_1 : S512x1024.ReducesTo [0, 1] S_
  h_S_ : 0 < S_.numel
  bcast_S_S1024x8192 : S_.BroadcastsInDim S1024x8192 (![] : Fin 0 → Fin S1024x8192.rank)
  reducesTo_S1024x8192_S_d0_1 : S1024x8192.ReducesTo [0, 1] S_

variable [Facts]

def fn {F : FTy → Type} [FloatOps F] (main_arg0 : FVec F S512x1024 .bf16) (main_arg1 : FVec F S1024x8192 .bf16) : IVec S_ 1 :=
  let main_v0 : FVec F S512x1024 .f32 := (extf .f32 · bitsLt_bf16_f32) main_arg0
  let main_v1 : FVec F S512x1024 .f32 := Host.absf main_v0
  let main_cst : FVec F S_ .f32 := constant S_ .f32 0x7F800000#32
  let main_v2 : FVec F S512x1024 .f32 := broadcastInDim S512x1024 ![] bcast_S_S512x1024 main_cst
  let main_v3 : IVec S512x1024 1 := cmpf .olt main_v1 main_v2
  let main_c : IVec S_ 1 := constantI S_ 1 1#1
  let main_v4 : IVec S_ 1 := (fun x v => Host.reduce IntOp.andi x v reducesTo_S512x1024_S_d0_1 h_S_) main_v3 main_c
  let main_v5 : FVec F S1024x8192 .f32 := (extf .f32 · bitsLt_bf16_f32) main_arg1
  let main_v6 : FVec F S1024x8192 .f32 := Host.absf main_v5
  let main_cst_0 : FVec F S_ .f32 := constant S_ .f32 0x7F800000#32
  let main_v7 : FVec F S1024x8192 .f32 := broadcastInDim S1024x8192 ![] bcast_S_S1024x8192 main_cst_0
  let main_v8 : IVec S1024x8192 1 := cmpf .olt main_v6 main_v7
  let main_c_1 : IVec S_ 1 := constantI S_ 1 1#1
  let main_v9 : IVec S_ 1 := (fun x v => Host.reduce IntOp.andi x v reducesTo_S1024x8192_S_d0_1 h_S_) main_v8 main_c_1
  let main_v10 : IVec S_ 1 := andi main_v4 main_v9
  main_v10
-- ==== Pre_finite_ReferenceIdeal.lean ====
abbrev S512x1024 : Shape := ⟨2, ![512, 1024]⟩
abbrev S1024x65536 : Shape := ⟨2, ![1024, 65536]⟩
abbrev S_ : Shape := ⟨0, ![]⟩

class Facts : Prop where
  bitsLt_bf16_f32 : FTy.bits .bf16 < FTy.bits .f32
  bcast_S_S512x1024 : S_.BroadcastsInDim S512x1024 (![] : Fin 0 → Fin S512x1024.rank)
  reducesTo_S512x1024_S_d0_1 : S512x1024.ReducesTo [0, 1] S_
  h_S_ : 0 < S_.numel
  bcast_S_S1024x65536 : S_.BroadcastsInDim S1024x65536 (![] : Fin 0 → Fin S1024x65536.rank)
  reducesTo_S1024x65536_S_d0_1 : S1024x65536.ReducesTo [0, 1] S_

variable [Facts]

def fn {F : FTy → Type} [FloatOps F] (main_arg0 : FVec F S512x1024 .bf16) (main_arg1 : FVec F S1024x65536 .bf16) : IVec S_ 1 :=
  let main_v0 : FVec F S512x1024 .f32 := (extf .f32 · bitsLt_bf16_f32) main_arg0
  let main_v1 : FVec F S512x1024 .f32 := Host.absf main_v0
  let main_cst : FVec F S_ .f32 := constant S_ .f32 0x7F800000#32
  let main_v2 : FVec F S512x1024 .f32 := broadcastInDim S512x1024 ![] bcast_S_S512x1024 main_cst
  let main_v3 : IVec S512x1024 1 := cmpf .olt main_v1 main_v2
  let main_c : IVec S_ 1 := constantI S_ 1 1#1
  let main_v4 : IVec S_ 1 := (fun x v => Host.reduce IntOp.andi x v reducesTo_S512x1024_S_d0_1 h_S_) main_v3 main_c
  let main_v5 : FVec F S1024x65536 .f32 := (extf .f32 · bitsLt_bf16_f32) main_arg1
  let main_v6 : FVec F S1024x65536 .f32 := Host.absf main_v5
  let main_cst_0 : FVec F S_ .f32 := constant S_ .f32 0x7F800000#32
  let main_v7 : FVec F S1024x65536 .f32 := broadcastInDim S1024x65536 ![] bcast_S_S1024x65536 main_cst_0
  let main_v8 : IVec S1024x65536 1 := cmpf .olt main_v6 main_v7
  let main_c_1 : IVec S_ 1 := constantI S_ 1 1#1
  let main_v9 : IVec S_ 1 := (fun x v => Host.reduce IntOp.andi x v reducesTo_S1024x65536_S_d0_1 h_S_) main_v8 main_c_1
  let main_v10 : IVec S_ 1 := andi main_v4 main_v9
  main_v10
-- ==== Kernel.lean ====
abbrev S512x1024 : Shape := ⟨2, ![512, 1024]⟩
abbrev S1024x8192 : Shape := ⟨2, ![1024, 8192]⟩
abbrev S512x8192 : Shape := ⟨2, ![512, 8192]⟩
abbrev S_ : Shape := ⟨0, ![]⟩
abbrev S512 : Shape := ⟨1, ![512]⟩
abbrev S512x1 : Shape := ⟨2, ![512, 1]⟩
abbrev S512x128 : Shape := ⟨2, ![512, 128]⟩
abbrev S512x65536 : Shape := ⟨2, ![512, 65536]⟩
abbrev S2x512x8192 : Shape := ⟨3, ![2, 512, 8192]⟩
abbrev S7x512x128 : Shape := ⟨3, ![7, 512, 128]⟩
abbrev S2x512x4096 : Shape := ⟨3, ![2, 512, 4096]⟩
abbrev S7 : Shape := ⟨1, ![7]⟩
abbrev S2 : Shape := ⟨1, ![2]⟩
abbrev S1 : Shape := ⟨1, ![1]⟩
abbrev S1x512x8192 : Shape := ⟨3, ![1, 512, 8192]⟩
abbrev S1x512x128 : Shape := ⟨3, ![1, 512, 128]⟩
abbrev S512x4096 : Shape := ⟨2, ![512, 4096]⟩
abbrev S1x512x4096 : Shape := ⟨3, ![1, 512, 4096]⟩

abbrev nBuf : Space → Nat
  | .hbm => 10
  | .vmem => 5
  | .smem => 0
  | _ => 0

abbrev bufTy : (tb : Table) → Fin (tcTables nBuf tb) → BufTy
  | .hbm, ⟨0, _⟩ => ⟨S512x1024, .bf16⟩
  | .hbm, ⟨1, _⟩ => ⟨S1024x8192, .bf16⟩
  | .hbm, ⟨2, _⟩ => ⟨S512x8192, .f32⟩
  | .hbm, ⟨3, _⟩ => ⟨S512x8192, .f32⟩
  | .hbm, ⟨4, _⟩ => ⟨S512x8192, .bf16⟩
  | .hbm, ⟨5, _⟩ => ⟨S_, .f32⟩
  | .hbm, ⟨6, _⟩ => ⟨S512, .f32⟩
  | .hbm, ⟨7, _⟩ => ⟨S512x1, .f32⟩
  | .hbm, ⟨8, _⟩ => ⟨S512x128, .f32⟩
  | .hbm, ⟨9, _⟩ => ⟨S512x65536, .f32⟩
  | .local _ .vmem, ⟨0, _⟩ => ⟨S512x8192, .bf16⟩
  | .local _ .vmem, ⟨1, _⟩ => ⟨S512x128, .f32⟩
  | .local _ .vmem, ⟨2, _⟩ => ⟨S2x512x8192, .bf16⟩
  | .local _ .vmem, ⟨3, _⟩ => ⟨S7x512x128, .f32⟩
  | .local _ .vmem, ⟨4, _⟩ => ⟨S2x512x4096, .f32⟩
  | _, _ => ⟨S512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 2 → Bool
  | ⟨0, _⟩ => true
  | ⟨1, _⟩ => false
  | _ => false

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  (ofTc nBuf bufTy 2 32 bufScoped semScoped dmaSemScoped tileCredit tileCredit_eq_zero tileCredit_pos).withBarriers [(0, 1)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_cst : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier0 : Sem sig := 1

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_5 : BitVec 32 := 1#32
  let v9 : BitVec 32 := Scalar.addi v2 c1_i32_5
  let c8_i32_6 : BitVec 32 := 8#32
  let v10 : BitVec 32 := Scalar.remsi v9 c8_i32_6
  let c1_i32_8 : BitVec 32 := 1#32
  let v11 : BitVec 32 := Scalar.muli v10 c1_i32_8
  let v12 : BitVec 32 := Scalar.addi c0_i32 v11
  v12.toNat
def k0_dev2 (d0 : Dev nD) : Nat :=
  let c0_i32_12 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v13 : BitVec 32 := Scalar.addi v2 c2_i32
  let c8_i32_9 : BitVec 32 := 8#32
  let v14 : BitVec 32 := Scalar.remsi v13 c8_i32_9
  let c1_i32_11 : BitVec 32 := 1#32
  let v15 : BitVec 32 := Scalar.muli v14 c1_i32_11
  let v16 : BitVec 32 := Scalar.addi c0_i32_12 v15
  v16.toNat
def k0_dev3 (d0 : Dev nD) : Nat :=
  let c0_i32_16 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v17 : BitVec 32 := Scalar.addi v2 c3_i32
  let c8_i32_13 : BitVec 32 := 8#32
  let v18 : BitVec 32 := Scalar.remsi v17 c8_i32_13
  let c1_i32_15 : BitVec 32 := 1#32
  let v19 : BitVec 32 := Scalar.muli v18 c1_i32_15
  let v20 : BitVec 32 := Scalar.addi c0_i32_16 v19
  v20.toNat
def k0_dev4 (d0 : Dev nD) : Nat :=
  let c0_i32_20 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v21 : BitVec 32 := Scalar.addi v2 c4_i32
  let c8_i32_17 : BitVec 32 := 8#32
  let v22 : BitVec 32 := Scalar.remsi v21 c8_i32_17
  let c1_i32_19 : BitVec 32 := 1#32
  let v23 : BitVec 32 := Scalar.muli v22 c1_i32_19
  let v24 : BitVec 32 := Scalar.addi c0_i32_20 v23
  v24.toNat
def k0_dev5 (d0 : Dev nD) : Nat :=
  let c0_i32_24 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v25 : BitVec 32 := Scalar.addi v2 c5_i32
  let c8_i32_21 : BitVec 32 := 8#32
  let v26 : BitVec 32 := Scalar.remsi v25 c8_i32_21
  let c1_i32_23 : BitVec 32 := 1#32
  let v27 : BitVec 32 := Scalar.muli v26 c1_i32_23
  let v28 : BitVec 32 := Scalar.addi c0_i32_24 v27
  v28.toNat
def k0_dev6 (d0 : Dev nD) : Nat :=
  let c0_i32_28 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v29 : BitVec 32 := Scalar.addi v2 c6_i32
  let c8_i32_25 : BitVec 32 := 8#32
  let v30 : BitVec 32 := Scalar.remsi v29 c8_i32_25
  let c1_i32_27 : BitVec 32 := 1#32
  let v31 : BitVec 32 := Scalar.muli v30 c1_i32_27
  let v32 : BitVec 32 := Scalar.addi c0_i32_28 v31
  v32.toNat
def k0_dev7 (d0 : Dev nD) : Nat :=
  let c0_i32_32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v33 : BitVec 32 := Scalar.addi v2 c7_i32
  let c8_i32_29 : BitVec 32 := 8#32
  let v34 : BitVec 32 := Scalar.remsi v33 c8_i32_29
  let c1_i32_31 : BitVec 32 := 1#32
  let v35 : BitVec 32 := Scalar.muli v34 c1_i32_31
  let v36 : BitVec 32 := Scalar.addi c0_i32_32 v35
  v36.toNat
def k0_dev8 (d0 : Dev nD) : Nat :=
  let c0_i32_38 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_37 : BitVec 32 := 1#32
  let v37 : BitVec 32 := Scalar.muli v7 c1_i32_37
  let v38 : BitVec 32 := Scalar.addi c0_i32_38 v37
  v38.toNat
def k0_dev9 (d0 : Dev nD) : Nat :=
  let c0_i32_47 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_41 : BitVec 32 := 1#32
  let v45 : BitVec 32 := Scalar.addi v2 c1_i32_41
  let c8_i32_42 : BitVec 32 := 8#32
  let v46 : BitVec 32 := Scalar.remsi v45 c8_i32_42
  let c1_i32_46 : BitVec 32 := 1#32
  let v47 : BitVec 32 := Scalar.muli v46 c1_i32_46
  let v48 : BitVec 32 := Scalar.addi c0_i32_47 v47
  v48.toNat
def k0_dev10 (d0 : Dev nD) : Nat :=
  let c0_i32_56 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_50 : BitVec 32 := 2#32
  let v55 : BitVec 32 := Scalar.addi v2 c2_i32_50
  let c8_i32_51 : BitVec 32 := 8#32
  let v56 : BitVec 32 := Scalar.remsi v55 c8_i32_51
  let c1_i32_55 : BitVec 32 := 1#32
  let v57 : BitVec 32 := Scalar.muli v56 c1_i32_55
  let v58 : BitVec 32 := Scalar.addi c0_i32_56 v57
  v58.toNat
def k0_dev11 (d0 : Dev nD) : Nat :=
  let c0_i32_65 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_59 : BitVec 32 := 3#32
  let v65 : BitVec 32 := Scalar.addi v2 c3_i32_59
  let c8_i32_60 : BitVec 32 := 8#32
  let v66 : BitVec 32 := Scalar.remsi v65 c8_i32_60
  let c1_i32_64 : BitVec 32 := 1#32
  let v67 : BitVec 32 := Scalar.muli v66 c1_i32_64
  let v68 : BitVec 32 := Scalar.addi c0_i32_65 v67
  v68.toNat
def k0_dev12 (d0 : Dev nD) : Nat :=
  let c0_i32_74 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_68 : BitVec 32 := 4#32
  let v75 : BitVec 32 := Scalar.addi v2 c4_i32_68
  let c8_i32_69 : BitVec 32 := 8#32
  let v76 : BitVec 32 := Scalar.remsi v75 c8_i32_69
  let c1_i32_73 : BitVec 32 := 1#32
  let v77 : BitVec 32 := Scalar.muli v76 c1_i32_73
  let v78 : BitVec 32 := Scalar.addi c0_i32_74 v77
  v78.toNat
def k0_dev13 (d0 : Dev nD) : Nat :=
  let c0_i32_83 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_77 : BitVec 32 := 5#32
  let v85 : BitVec 32 := Scalar.addi v2 c5_i32_77
  let c8_i32_78 : BitVec 32 := 8#32
  let v86 : BitVec 32 := Scalar.remsi v85 c8_i32_78
  let c1_i32_82 : BitVec 32 := 1#32
  let v87 : BitVec 32 := Scalar.muli v86 c1_i32_82
  let v88 : BitVec 32 := Scalar.addi c0_i32_83 v87
  v88.toNat
def k0_dev14 (d0 : Dev nD) : Nat :=
  let c0_i32_92 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_86 : BitVec 32 := 6#32
  let v95 : BitVec 32 := Scalar.addi v2 c6_i32_86
  let c8_i32_87 : BitVec 32 := 8#32
  let v96 : BitVec 32 := Scalar.remsi v95 c8_i32_87
  let c1_i32_91 : BitVec 32 := 1#32
  let v97 : BitVec 32 := Scalar.muli v96 c1_i32_91
  let v98 : BitVec 32 := Scalar.addi c0_i32_92 v97
  v98.toNat
def k0_dev15 (d0 : Dev nD) : Nat :=
  let c0_i32_101 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_95 : BitVec 32 := 7#32
  let v105 : BitVec 32 := Scalar.addi v2 c7_i32_95
  let c8_i32_96 : BitVec 32 := 8#32
  let v106 : BitVec 32 := Scalar.remsi v105 c8_i32_96
  let c1_i32_100 : BitVec 32 := 1#32
  let v107 : BitVec 32 := Scalar.muli v106 c1_i32_100
  let v108 : BitVec 32 := Scalar.addi c0_i32_101 v107
  v108.toNat
def k0_off1 (d0 : Dev nD) (c0_i32_213 : BitVec 32) : Fin 2 → Nat :=
  let c0_i32_219 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8192_i32 : BitVec 32 := 8192#32
  let v216 : BitVec 32 := Scalar.muli v2 c8192_i32
  let v217 : BitVec 32 := Scalar.addi v216 c0_i32_213
  ![0, v217.toNat]
def k0_dev16 (d0 : Dev nD) : Nat :=
  let c0_i32_250 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_249 : BitVec 32 := 1#32
  let v251 : BitVec 32 := Scalar.muli v7 c1_i32_249
  let v252 : BitVec 32 := Scalar.addi c0_i32_250 v251
  v252.toNat
def k0_off2 (d0 : Dev nD) (c7_i32_255 : BitVec 32) (c0_i32_261 : BitVec 32) : Fin 2 → Nat :=
  let c0_i32_272 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v261 : BitVec 32 := Scalar.addi v2 c7_i32_255
  let c8_i32_256 : BitVec 32 := 8#32
  let v262 : BitVec 32 := Scalar.remsi v261 c8_i32_256
  let c8192_i32_260 : BitVec 32 := 8192#32
  let v268 : BitVec 32 := Scalar.muli v262 c8192_i32_260
  let v269 : BitVec 32 := Scalar.addi v268 c0_i32_261
  ![0, v269.toNat]
def k0_dev17 (d0 : Dev nD) : Nat :=
  let c0_i32_314 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_313 : BitVec 32 := 1#32
  let v317 : BitVec 32 := Scalar.muli v5 c1_i32_313
  let v318 : BitVec 32 := Scalar.addi c0_i32_314 v317
  v318.toNat
def k0_dev18 (d0 : Dev nD) : Nat :=
  let c0_i32_322 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_321 : BitVec 32 := 1#32
  let v319 : BitVec 32 := Scalar.muli v7 c1_i32_321
  let v320 : BitVec 32 := Scalar.addi c0_i32_322 v319
  v320.toNat
def k0_dev19 (d0 : Dev nD) : Nat :=
  let c0_i32_386 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_385 : BitVec 32 := 1#32
  let v385 : BitVec 32 := Scalar.muli v5 c1_i32_385
  let v386 : BitVec 32 := Scalar.addi c0_i32_386 v385
  v386.toNat
def k0_dev20 (d0 : Dev nD) : Nat :=
  let c0_i32_394 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_393 : BitVec 32 := 1#32
  let v387 : BitVec 32 := Scalar.muli v7 c1_i32_393
  let v388 : BitVec 32 := Scalar.addi c0_i32_394 v387
  v388.toNat
def k0_dev21 (d0 : Dev nD) : Nat :=
  let c0_i32_458 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_457 : BitVec 32 := 1#32
  let v453 : BitVec 32 := Scalar.muli v5 c1_i32_457
  let v454 : BitVec 32 := Scalar.addi c0_i32_458 v453
  v454.toNat
def k0_dev22 (d0 : Dev nD) : Nat :=
  let c0_i32_466 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_465 : BitVec 32 := 1#32
  let v455 : BitVec 32 := Scalar.muli v7 c1_i32_465
  let v456 : BitVec 32 := Scalar.addi c0_i32_466 v455
  v456.toNat
def k0_dev23 (d0 : Dev nD) : Nat :=
  let c0_i32_530 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_529 : BitVec 32 := 1#32
  let v521 : BitVec 32 := Scalar.muli v5 c1_i32_529
  let v522 : BitVec 32 := Scalar.addi c0_i32_530 v521
  v522.toNat
def k0_dev24 (d0 : Dev nD) : Nat :=
  let c0_i32_538 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_537 : BitVec 32 := 1#32
  let v523 : BitVec 32 := Scalar.muli v7 c1_i32_537
  let v524 : BitVec 32 := Scalar.addi c0_i32_538 v523
  v524.toNat
def k0_dev25 (d0 : Dev nD) : Nat :=
  let c0_i32_602 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_601 : BitVec 32 := 1#32
  let v589 : BitVec 32 := Scalar.muli v5 c1_i32_601
  let v590 : BitVec 32 := Scalar.addi c0_i32_602 v589
  v590.toNat
def k0_dev26 (d0 : Dev nD) : Nat :=
  let c0_i32_610 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_609 : BitVec 32 := 1#32
  let v591 : BitVec 32 := Scalar.muli v7 c1_i32_609
  let v592 : BitVec 32 := Scalar.addi c0_i32_610 v591
  v592.toNat
abbrev stage0_0 : Fin 1 → Memref sig .tc .vmem S512x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S512x1024 : Shape := ⟨2, ![512, 1024]⟩
abbrev S1024x65536 : Shape := ⟨2, ![1024, 65536]⟩
abbrev S512x65536 : Shape := ⟨2, ![512, 65536]⟩
abbrev S_ : Shape := ⟨0, ![]⟩
abbrev S512 : Shape := ⟨1, ![512]⟩
abbrev S512x1 : Shape := ⟨2, ![512, 1]⟩

abbrev nBuf : Space → Nat
  | .hbm => 18
  | .vmem => 0
  | .smem => 0
  | _ => 0

abbrev bufTy : (tb : Table) → Fin (tcTables nBuf tb) → BufTy
  | .hbm, ⟨0, _⟩ => ⟨S512x1024, .bf16⟩
  | .hbm, ⟨1, _⟩ => ⟨S1024x65536, .bf16⟩
  | .hbm, ⟨2, _⟩ => ⟨S512x65536, .f32⟩
  | .hbm, ⟨3, _⟩ => ⟨S512x65536, .bf16⟩
  | .hbm, ⟨4, _⟩ => ⟨S_, .bf16⟩
  | .hbm, ⟨5, _⟩ => ⟨S512, .bf16⟩
  | .hbm, ⟨6, _⟩ => ⟨S512x1, .bf16⟩
  | .hbm, ⟨7, _⟩ => ⟨S512x65536, .bf16⟩
  | .hbm, ⟨8, _⟩ => ⟨S512x65536, .bf16⟩
  | .hbm, ⟨9, _⟩ => ⟨S512x65536, .bf16⟩
  | .hbm, ⟨10, _⟩ => ⟨S512x65536, .f32⟩
  | .hbm, ⟨11, _⟩ => ⟨S_, .f32⟩
  | .hbm, ⟨12, _⟩ => ⟨S512, .f32⟩
  | .hbm, ⟨13, _⟩ => ⟨S512x1, .f32⟩
  | .hbm, ⟨14, _⟩ => ⟨S512x1, .bf16⟩
  | .hbm, ⟨15, _⟩ => ⟨S512x65536, .bf16⟩
  | .hbm, ⟨16, _⟩ => ⟨S512x65536, .bf16⟩
  | .hbm, ⟨17, _⟩ => ⟨S512x65536, .f32⟩
  | _, _ => ⟨S512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]
-- ==== Proof.IdealSched.lean ====
/-
  The ring kernel's semaphores as cells with rounds: who pays each round, how much, and what the payment hands over.

  * barrier of `c`: round 0, seven units, one from every other device; each hands over its statistics slot that `c` will
    write, and the right neighbour also both of its ring slots.
  * receive cells of ring step `h` and of statistics slot `j`: one landing, the own slot back at what landed.
  * send cells: one landing, the lent share of the source back.
  * credit of `c`: rounds 0..4, one unit each from the right neighbour, a free ring slot of it.
  * output cells: rounds 0..7, one block written of the result each, and the staging slot back.
-/
module

public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.RegionTalk
public import Idealize.ShloMosaic.Lib.Rounds
public import Idealize.ShloMosaic.Lib.Tactic
public import Idealize.ShloMosaic.Lib.SparseCore.ProtocolKit

@[expose] public section

noncomputable section

namespace Cert.KernelIdeal.Ring

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

/-- The resource algebra: the pipeline's rounds and the ring protocol's. -/
abbrev UA : Type := URounds (GSem nD τ sig) (Fin 7)
abbrev UU : Type := UR sig nD τ × UA

local notation "𝕄" => MT nD τ sig ℕ (Elt F) ℕ UU ℕ

abbrev EP : Emb (UR sig nD τ) (MT nD τ sig ℕ (Elt F) ℕ UU ℕ) := embL
abbrev ER : Emb UA (MT nD τ sig ℕ (Elt F) ℕ UU ℕ) := embR

/-! ## Devices around the ring -/

/-- The device `k` places to the right of `c`. -/
def rt (k : ℕ) (c : Dev nD) : Dev nD := ⟨(c.val + k) % 8, Nat.mod_lt _ (by decide)⟩

theorem rt_rt (a b : ℕ) (c : Dev nD) : rt a (rt b c) = rt (a + b) c := by
  apply Fin.ext; simp only [rt]; omega
theorem rt_eight (c : Dev nD) : rt 8 c = c := by
  apply Fin.ext; simp only [rt]; have := c.isLt; simp only [nD] at this; omega
theorem rt_zero (c : Dev nD) : rt 0 c = c := by
  apply Fin.ext; simp only [rt]; have := c.isLt; simp only [nD] at this; omega
theorem rt_rt_eq (a b : ℕ) (c : Dev nD) (h : a + b = 8) : rt a (rt b c) = c := by rw [rt_rt, h, rt_eight]

/-! ## The memory the kernel uses -/

abbrev eM : Memref sig .tc .vmem S512x8192 .bf16 := Memref.whole cc0_stg0_0
abbrev sM : Memref sig .tc .vmem S512x128 .f32 := Memref.whole cc0_stg1_0
abbrev oM : Memref sig .tc .hbm S512x65536 .f32 := Memref.whole main_v7
abbrev commB : Memref sig .tc .vmem S2x512x8192 .bf16 := Memref.whole cc0_scratch0
abbrev statB : Memref sig .tc .vmem S7x512x128 .f32 := Memref.whole cc0_scratch1
abbrev stageB : Memref sig .tc .vmem S2x512x4096 .f32 := Memref.whole cc0_scratch2

theorem inbC (sl : Fin 2) : ∀ a, (![sl.val, 0, 0] : Fin 3 → Nat) a + S1x512x8192.size a ≤ S2x512x8192.size a := by
  revert sl; decide
theorem inbT (j : Fin 7) : ∀ a, (![j.val, 0, 0] : Fin 3 → Nat) a + S1x512x128.size a ≤ S7x512x128.size a := by
  revert j; decide
theorem inbG (sl : Fin 2) : ∀ a, (![sl.val, 0, 0] : Fin 3 → Nat) a + S1x512x4096.size a ≤ S2x512x4096.size a := by
  revert sl; decide

/-- Ring slot `sl`, statistics slot `j`, output staging slot `sl`. -/
abbrev commV (sl : Fin 2) : Memref sig .tc .vmem S512x8192 .bf16 :=
  (commB.slice (Rect.unit (s := S2x512x8192) ![sl.val, 0, 0] S1x512x8192.size (inbC sl)) (fun _ => rfl)).squeeze S512x8192 squeezes_S1x512x8192_S512x8192
abbrev statV (j : Fin 7) : Memref sig .tc .vmem S512x128 .f32 :=
  (statB.slice (Rect.unit (s := S7x512x128) ![j.val, 0, 0] S1x512x128.size (inbT j)) (fun _ => rfl)).squeeze S512x128 squeezes_S1x512x128_S512x128
abbrev stageR (sl : Fin 2) : Rect S2x512x4096 := Rect.unit (s := S2x512x4096) ![sl.val, 0, 0] S1x512x4096.size (inbG sl)
abbrev stageV (sl : Fin 2) : Memref sig .tc .vmem S512x4096 .f32 :=
  (stageB.slice (stageR sl) (fun _ => rfl)).squeeze S512x4096 squeezes_S1x512x4096_S512x4096

/-- Where block `n` of the result starts, on device `c`: the columns of the device `n / 2` places to the left, half `n % 2`. -/
def oOff (c : Dev nD) (n : ℕ) : Fin 2 → Nat := ![0, 8192 * ((c.val + (15 - n) / 2 + 1) % 8) + 4096 * (n % 2)]
theorem inbO (c : Dev nD) (n : Fin 16) : ∀ a, oOff c n.val a + S512x4096.size a ≤ S512x65536.size a := by
  revert c n; decide +kernel
abbrev outV (c : Dev nD) (n : Fin 16) : Memref sig .tc .hbm S512x4096 .f32 :=
  oM.slice (Rect.unit (s := S512x65536) (oOff c n.val) S512x4096.size (inbO c n)) (fun _ => rfl)

/-! ## Semaphores -/

/-- What a semaphore is for. -/
inductive Kd
  | none | bar | credit
  | dsend (h : Fin 7) | drecv (h : Fin 7) | ssend (j : Fin 7) | srecv (j : Fin 7) | osem (sl : Fin 2)

abbrev barS : Sem sig := barrier0
abbrev creditS : Sem sig := 0
def dsendS (h : Fin 7) : DmaSem sig := ⟨2 + h.val, by have := h.isLt; show _ < 32; omega⟩
def drecvS (h : Fin 7) : DmaSem sig := ⟨9 + h.val, by have := h.isLt; show _ < 32; omega⟩
def ssendS (j : Fin 7) : DmaSem sig := ⟨16 + j.val, by have := j.isLt; show _ < 32; omega⟩
def srecvS (j : Fin 7) : DmaSem sig := ⟨23 + j.val, by have := j.isLt; show _ < 32; omega⟩
def osemS (sl : Fin 2) : DmaSem sig := ⟨30 + sl.val, by have := sl.isLt; show _ < 32; omega⟩

def kindOf : SemLoc sig → Kd
  | .reg i => if i.val = 0 then .credit else .bar
  | .dma i =>
    if h2 : i.val < 2 then .none
    else if h9 : i.val < 9 then .dsend ⟨i.val - 2, by omega⟩
    else if h16 : i.val < 16 then .drecv ⟨i.val - 9, by omega⟩
    else if h23 : i.val < 23 then .ssend ⟨i.val - 16, by omega⟩
    else if h30 : i.val < 30 then .srecv ⟨i.val - 23, by omega⟩
    else if h32 : i.val < 32 then .osem ⟨i.val - 30, by omega⟩ else .none

theorem kind_bar : kindOf (.reg barS) = .bar := rfl
theorem kind_credit : kindOf (.reg creditS) = .credit := rfl
theorem kind_dsend : ∀ h, kindOf (.dma (dsendS h)) = .dsend h := fun
  | 0 => rfl | 1 => rfl | 2 => rfl | 3 => rfl | 4 => rfl | 5 => rfl | 6 => rfl
theorem kind_drecv : ∀ h, kindOf (.dma (drecvS h)) = .drecv h := fun
  | 0 => rfl | 1 => rfl | 2 => rfl | 3 => rfl | 4 => rfl | 5 => rfl | 6 => rfl
theorem kind_ssend : ∀ h, kindOf (.dma (ssendS h)) = .ssend h := fun
  | 0 => rfl | 1 => rfl | 2 => rfl | 3 => rfl | 4 => rfl | 5 => rfl | 6 => rfl
theorem kind_srecv : ∀ h, kindOf (.dma (srecvS h)) = .srecv h := fun
  | 0 => rfl | 1 => rfl | 2 => rfl | 3 => rfl | 4 => rfl | 5 => rfl | 6 => rfl
theorem kind_osem : ∀ h, kindOf (.dma (osemS h)) = .osem h := fun
  | 0 => rfl | 1 => rfl

abbrev barC (c : Dev nD) : GSem nD τ sig := ((c : Thread nD τ), .reg barS)
abbrev creditC (c : Dev nD) : GSem nD τ sig := ((c : Thread nD τ), .reg creditS)
abbrev dsendC (c : Dev nD) (h : Fin 7) : GSem nD τ sig := ((c : Thread nD τ), .dma (dsendS h))
abbrev drecvC (c : Dev nD) (h : Fin 7) : GSem nD τ sig := ((c : Thread nD τ), .dma (drecvS h))
abbrev ssendC (c : Dev nD) (j : Fin 7) : GSem nD τ sig := ((c : Thread nD τ), .dma (ssendS j))
abbrev srecvC (c : Dev nD) (j : Fin 7) : GSem nD τ sig := ((c : Thread nD τ), .dma (srecvS j))
abbrev osemC (c : Dev nD) (sl : Fin 2) : GSem nD τ sig := ((c : Thread nD τ), .dma (osemS sl))

/-- What one transfer credits: of a ring slot, of a statistics slot, of an output block. -/
def Nc : ℕ := (commV 0).view.dmaCredit
def Ns : ℕ := (statV 0).view.dmaCredit
def No : ℕ := (outV 0 0).view.dmaCredit
theorem Nc_pos : 0 < Nc := View.dmaCredit_pos _ (by decide)
theorem Ns_pos : 0 < Ns := View.dmaCredit_pos _ (by decide)
theorem No_pos : 0 < No := View.dmaCredit_pos _ (by decide)
theorem Nc_eq : ∀ sl, (commV sl).view.dmaCredit = Nc := fun | 0 => rfl | 1 => rfl
theorem Nc_eq' : eM.view.dmaCredit = Nc := rfl
theorem Ns_eq : ∀ j, (statV j).view.dmaCredit = Ns := fun | 0 => rfl | 1 => rfl | 2 => rfl | 3 => rfl | 4 => rfl | 5 => rfl | 6 => rfl
theorem Ns_eq' : sM.view.dmaCredit = Ns := rfl
theorem No_eq (c : Dev nD) (n : Fin 16) : (outV c n).view.dmaCredit = No := rfl
theorem No_eq' : ∀ sl, (stageV sl).view.dmaCredit = No := fun | 0 => rfl | 1 => rfl

/-! ## The contents -/

variable (m : (ℓ : Loc nD τ sig) → Buf (Elt F) ℓ)

/-- What device `c` computes before the kernel: its exponentials, and the sums of its rows. -/
def eX (c : Dev nD) : S512x8192.Idx → Elt F .bf16 := V m c main_v3
def sX (c : Dev nD) : S512x128.Idx → Elt F .f32 := V m c main_v6

/-- Ring slot `sl` of `c` with `X` landed in it; statistics slot `j` of `c` likewise. -/
def commC (sl : Fin 2) (c : Dev nD) (X : S512x8192.Idx → Elt F .bf16) : Buf (Elt F) ((commV sl).view.loc (c : Thread nD τ)) :=
  (commV sl).view.write (Elt F) (m ((commV sl).view.loc (c : Thread nD τ))) X Finset.univ
def statC (j : Fin 7) (c : Dev nD) (X : S512x128.Idx → Elt F .f32) : Buf (Elt F) ((statV j).view.loc (c : Thread nD τ)) :=
  (statV j).view.write (Elt F) (m ((statV j).view.loc (c : Thread nD τ))) X Finset.univ

/-- Ring step `h` lands the exponentials of the device `h + 1` places to the left; statistics slot `j` likewise. -/
def landedC (c : Dev nD) (h : Fin 7) : S512x8192.Idx → Elt F .bf16 := eX m (rt (7 - h.val) c)
def landedS (c : Dev nD) (j : Fin 7) : S512x128.Idx → Elt F .f32 := sX m (rt (7 - j.val) c)
def slotOf (h : Fin 7) : Fin 2 := ⟨h.val % 2, Nat.mod_lt _ (by decide)⟩

/-- The statistics as the kernel reads them: its own, and slot `j`. -/
abbrev ownR : Rect S512x128 := Rect.unit (s := S512x128) ![0, 0] S512x128.size inb_S512x128_S512x128_0_0
abbrev statR (j : Fin 7) : Rect S7x512x128 := Rect.unit (s := S7x512x128) ![j.val, 0, 0] S1x512x128.size (inbT j)
def ldOwn (c : Dev nD) : Vec F S512x128 .f32 := sM.view.readAt (Elt F) ownR.toLoadRect (sX m c)
def ldStat (c : Dev nD) (j : Fin 7) : Vec F S1x512x128 .f32 :=
  statB.view.readAt (Elt F) (statR j).toLoadRect (statC m j c (landedS m c j))

/-- One over the sum of the rows. -/
def inv1 (c : Dev nD) : FVec F S512x128 .f32 := k0_pay1 (ldOwn m c) (ldStat m c 0) (ldStat m c 1)
def inv2 (c : Dev nD) : FVec F S512x128 .f32 := k0_pay2 (inv1 m c) (ldStat m c 2) (ldStat m c 3) (ldStat m c 4)
def invV (c : Dev nD) : FVec F S512x1 .f32 := k0_pay3 (inv2 m c) (ldStat m c 5) (ldStat m c 6)

/-- The two halves of the own exponentials, and those of ring slot `sl`, as the kernel reads them. -/
theorem inbE (hf : Fin 2) : ∀ a, (![0, 4096 * hf.val] : Fin 2 → Nat) a + S512x4096.size a ≤ S512x8192.size a := by
  revert hf; decide
abbrev eR (hf : Fin 2) : Rect S512x8192 := Rect.unit (s := S512x8192) ![0, 4096 * hf.val] S512x4096.size (inbE hf)
def ldE (c : Dev nD) (hf : Fin 2) : Vec F S512x4096 .bf16 := eM.view.readAt (Elt F) (eR hf).toLoadRect (eX m c)
theorem inbH (sl hf : Fin 2) : ∀ a, (![sl.val, 0, 4096 * hf.val] : Fin 3 → Nat) a + S1x512x4096.size a ≤ S2x512x8192.size a := by
  revert sl hf; decide
abbrev commH (sl hf : Fin 2) : Rect S2x512x8192 := Rect.unit (s := S2x512x8192) ![sl.val, 0, 4096 * hf.val] S1x512x4096.size (inbH sl hf)
def ldC (c : Dev nD) (h : Fin 7) (hf : Fin 2) : Vec F S1x512x4096 .bf16 :=
  commB.view.readAt (Elt F) (commH (slotOf h) hf).toLoadRect (commC m (slotOf h) c (landedC m c h))

/-- What the kernel stores for block `n`; the staging slot then; and the block of the result it becomes. -/
def payW (c : Dev nD) (n : Fin 16) : FVec F S1x512x4096 .f32 :=
  if h : n.val < 2 then k0_pay6 (invV m c) (ldE m c ⟨n.val, h⟩)
  else k0_pay9 (invV m c) (ldC m c ⟨(n.val - 2) / 2, by omega⟩ ⟨n.val % 2, Nat.mod_lt _ (by decide)⟩)
def gSlot (n : Fin 16) : Fin 2 := ⟨n.val % 2, Nat.mod_lt _ (by decide)⟩
def stageC (c : Dev nD) (n : Fin 16) : Buf (Elt F) ((stageB.access (stageR (gSlot n))).loc (c : Thread nD τ)) :=
  (stageB.access (stageR (gSlot n))).write (Elt F) (m ((stageB.access (stageR (gSlot n))).loc (c : Thread nD τ))) (payW m c n) Finset.univ
def blockV (c : Dev nD) (n : Fin 16) : S512x4096.Idx → Elt F .f32 := (stageV (gSlot n)).view.read (Elt F) (stageC m c n)

/-- The block a column of the result lies in, on device `c`. -/
def blkOf (c : Dev nD) (col : ℕ) : Fin 16 := ⟨2 * ((c.val + 8 - col / 8192) % 8) + (col / 4096) % 2, by omega⟩
def cellIn (i : S512x65536.Idx) : S512x4096.Idx :=
  fun | ⟨0, _⟩ => i 0 | ⟨1, _⟩ => (⟨(i 1).val % 4096, Nat.mod_lt _ (by decide)⟩ : Fin 4096)
/-- The result on device `c`. -/
def outF (c : Dev nD) : S512x65536.Idx → Elt F .f32 := fun i => blockV m c (blkOf c (i 1).val) (cellIn i)

/-! ## The memory's assertions -/

abbrev commPts (c : Dev nD) (sl : Fin 2) (q : PosShare TreeShare) (f : Buf (Elt F) ((commV sl).view.loc (c : Thread nD τ))) : sProp 𝕄 :=
  (commV sl).view.loc (c : Thread nD τ) ↦[(commV sl).view.set]{q} f
abbrev statPts (c : Dev nD) (j : Fin 7) (f : Buf (Elt F) ((statV j).view.loc (c : Thread nD τ))) : sProp 𝕄 :=
  (statV j).view.loc (c : Thread nD τ) ↦[(statV j).view.set]{fullShare} f
abbrev stagePts (c : Dev nD) (sl : Fin 2) (f : Buf (Elt F) ((stageV sl).view.loc (c : Thread nD τ))) : sProp 𝕄 :=
  (stageV sl).view.loc (c : Thread nD τ) ↦[(stageV sl).view.set]{fullShare} f
abbrev outPts (c : Dev nD) (n : Fin 16) (f : Buf (Elt F) ((outV c n).view.loc (c : Thread nD τ))) : sProp 𝕄 :=
  (outV c n).view.loc (c : Thread nD τ) ↦[(outV c n).view.set]{fullShare} f
abbrev ePts (c : Dev nD) (q : PosShare TreeShare) : sProp 𝕄 :=
  eM.view.loc (c : Thread nD τ) ↦[eM.view.set]{q} eX m c
abbrev sPts (c : Dev nD) (q : PosShare TreeShare) : sProp 𝕄 :=
  sM.view.loc (c : Thread nD τ) ↦[sM.view.set]{q} sX m c

def commAny (c : Dev nD) (sl : Fin 2) : sProp 𝕄 := iprop(∃ f, commPts c sl fullShare f)
def statAny (c : Dev nD) (j : Fin 7) : sProp 𝕄 := iprop(∃ f, statPts c j f)
def stageAny (c : Dev nD) (sl : Fin 2) : sProp 𝕄 := iprop(∃ f, stagePts c sl f)
def outAny (c : Dev nD) (n : Fin 16) : sProp 𝕄 := iprop(∃ f, outPts c n f)
def outDone (c : Dev nD) (n : Fin 16) : sProp 𝕄 := outPts c n (outF m c)
/-- Ring slot of step `h` at what landed, whole or half of it. -/
def commAt (c : Dev nD) (h : Fin 7) (q : PosShare TreeShare) : sProp 𝕄 :=
  commPts c (slotOf h) q (commC m (slotOf h) c (landedC m c h))
def statAt (c : Dev nD) (j : Fin 7) : sProp 𝕄 := statPts c j (statC m j c (landedS m c j))

/-- The share of the own statistics lent to transfer `j`, and what is kept. -/
def shK : ℕ → PosShare TreeShare
  | 0 => fullShare
  | n + 1 => (shK n).left
def shS (j : ℕ) : PosShare TreeShare := (shK j).right

/-! ## The payments -/

/-- The statistics slot `c` writes on the device `j + 1` to the right, and that its receive cell is open. -/
def dstS (c : Dev nD) (j : Fin 7) : sProp 𝕄 := iprop(statAny (rt (j.val + 1) c) j ∗ reached ER (srecvC (rt (j.val + 1) c) j) 0)
/-- The ring slots of the right neighbour, and that its receive cells are open. -/
def dstC (c : Dev nD) (sl : Fin 2) : sProp 𝕄 := commAny (rt 1 c) sl
def rOpen (c : Dev nD) : sProp 𝕄 := bigSep Finset.univ fun h : Fin 7 => reached ER (drecvC (rt 1 c) h) 0
def barRest (c : Dev nD) (k : Fin 7) : sProp 𝕄 := if k = 6 then iprop(dstC c 0 ∗ dstC c 1 ∗ rOpen c) else iprop(emp)
def barPay (c : Dev nD) (k : Fin 7) : sProp 𝕄 := iprop(dstS c k.rev ∗ barRest c k)
/-- With a landing of step `1 .. 5`: the round of the sender's credit that the receiver will pay is open. -/
def rCredit (c : Dev nD) (h : Fin 7) : sProp 𝕄 :=
  if 1 ≤ h.val ∧ h.val ≤ 5 then reached ER (creditC (rt 7 c)) (h.val - 1) else iprop(emp)
def drecvPay (c : Dev nD) (h : Fin 7) : sProp 𝕄 := iprop(commAt m c h fullShare ∗ rCredit c h)
def dsendPay (c : Dev nD) (h : Fin 7) : sProp 𝕄 :=
  if hh : h.val = 0 then ePts m c fullShare.right else commAt m c ⟨h.val - 1, by omega⟩ fullShare.right
def osemPay (c : Dev nD) (sl : Fin 2) (r : ℕ) : sProp 𝕄 :=
  if h : 2 * r + sl.val < 16 then iprop(outDone m c ⟨2 * r + sl.val, h⟩ ∗ stageAny c sl) else iprop(emp)

def dutyK : Kd → ℕ → Finset (Fin 7)
  | .none, _ => ∅
  | .bar, r => if r = 0 then Finset.univ else ∅
  | .credit, r => if r < 5 then {0} else ∅
  | .dsend _, r => if r = 0 then {0} else ∅
  | .drecv _, r => if r = 0 then {0} else ∅
  | .ssend _, r => if r = 0 then {0} else ∅
  | .srecv _, r => if r = 0 then {0} else ∅
  | .osem _, r => if r < 8 then {0} else ∅
def amtK : Kd → ℕ
  | .none => 1 | .bar => 1 | .credit => 1
  | .dsend _ => Nc | .drecv _ => Nc | .ssend _ => Ns | .srecv _ => Ns | .osem _ => No
def payK (c : Dev nD) : Kd → ℕ → Fin 7 → sProp 𝕄
  | .none, _, _ => iprop(emp)
  | .bar, _, k => barPay c k
  | .credit, r, _ => dstC c ⟨r % 2, Nat.mod_lt _ (by decide)⟩
  | .dsend h, _, _ => dsendPay m c h
  | .drecv h, _, _ => drecvPay m c h
  | .ssend j, _, _ => sPts m c (shS j.val)
  | .srecv j, _, _ => statAt m c j
  | .osem sl, r, _ => osemPay m c sl r

theorem amtK_pos : ∀ k, 0 < amtK k := fun
  | .none => Nat.one_pos | .bar => Nat.one_pos | .credit => Nat.one_pos
  | .dsend _ => Nc_pos | .drecv _ => Nc_pos | .ssend _ => Ns_pos | .srecv _ => Ns_pos | .osem _ => No_pos

/-- The schedule. -/
def Rd : Rounds.Schedule (GSem nD τ sig) (Fin 7) 𝕄 where
  duties g r := if g.1.2 = .tc then dutyK (kindOf g.2) r else ∅
  amount g _ _ := amtK (kindOf g.2)
  payload g r d := payK m g.1.1 (kindOf g.2) r d
  amount_pos g _ _ _ := amtK_pos _

instance commAny_st (c : Dev nD) (sl : Fin 2) : BI.Storable (upEmb : UEmb _ 𝕄) (commAny c sl) := by unfold commAny; infer_instance
instance statAny_st (c : Dev nD) (sl : Fin 7) : BI.Storable (upEmb : UEmb _ 𝕄) (statAny c sl) := by unfold statAny; infer_instance
instance stageAny_st (c : Dev nD) (sl : Fin 2) : BI.Storable (upEmb : UEmb _ 𝕄) (stageAny c sl) := by unfold stageAny; infer_instance
instance dstC_st (c : Dev nD) (sl : Fin 2) : BI.Storable (upEmb : UEmb _ 𝕄) (dstC c sl) := by unfold dstC; infer_instance
instance dstS_st (c : Dev nD) (sl : Fin 7) : BI.Storable (upEmb : UEmb _ 𝕄) (dstS c sl) := by unfold dstS; infer_instance
instance rOpen_st (c : Dev nD) : BI.Storable (upEmb : UEmb _ 𝕄) (rOpen c) := by unfold rOpen; infer_instance
instance barRest_st (c : Dev nD) (k : Fin 7) : BI.Storable (upEmb : UEmb _ 𝕄) (barRest c k) := by unfold barRest; split <;> infer_instance
instance barPay_st (c : Dev nD) (k : Fin 7) : BI.Storable (upEmb : UEmb _ 𝕄) (barPay c k) := by unfold barPay; infer_instance
instance commAt_st (c : Dev nD) (h : Fin 7) (q) : BI.Storable (upEmb : UEmb _ 𝕄) (commAt m c h q) := by unfold commAt; infer_instance
instance statAt_st (c : Dev nD) (h : Fin 7) : BI.Storable (upEmb : UEmb _ 𝕄) (statAt m c h) := by unfold statAt; infer_instance
instance rCredit_st (c : Dev nD) (h : Fin 7) : BI.Storable (upEmb : UEmb _ 𝕄) (rCredit c h) := by unfold rCredit; split <;> infer_instance
instance drecvPay_st (c : Dev nD) (h : Fin 7) : BI.Storable (upEmb : UEmb _ 𝕄) (drecvPay m c h) := by unfold drecvPay; infer_instance
instance dsendPay_st (c : Dev nD) (h : Fin 7) : BI.Storable (upEmb : UEmb _ 𝕄) (dsendPay m c h) := by unfold dsendPay; split <;> infer_instance
instance outDone_st (c : Dev nD) (n : Fin 16) : BI.Storable (upEmb : UEmb _ 𝕄) (outDone m c n) := by unfold outDone; infer_instance
instance osemPay_st (c : Dev nD) (sl : Fin 2) (r : ℕ) : BI.Storable (upEmb : UEmb _ 𝕄) (osemPay m c sl r) := by unfold osemPay; split <;> infer_instance
instance payK_storable (c : Dev nD) (k : Kd) (r : ℕ) (d : Fin 7) : BI.Storable (upEmb : UEmb _ 𝕄) (payK m c k r d) := by
  cases k <;> unfold payK <;> infer_instance
instance Rd_payload_storable (g : GSem nD τ sig) (r : ℕ) (d : Fin 7) : BI.Storable (upEmb : UEmb _ 𝕄) ((Rd m).payload g r d) :=
  payK_storable m _ _ _ _

section Facts

variable (c : Dev nD)

theorem duties_tc (sm : SemLoc sig) (k : Kd) (hk : kindOf sm = k) (r : ℕ) : (Rd m).duties ((c : Thread nD τ), sm) r = dutyK k r := by
  subst hk; dsimp only [Rd]; exact if_pos rfl
theorem amount_tc (sm : SemLoc sig) (k : Kd) (hk : kindOf sm = k) (r : ℕ) (d : Fin 7) : (Rd m).amount ((c : Thread nD τ), sm) r d = amtK k := by
  subst hk; rfl
theorem payload_tc (sm : SemLoc sig) (k : Kd) (hk : kindOf sm = k) (r : ℕ) (d : Fin 7) :
    (Rd m).payload ((c : Thread nD τ), sm) r d = payK m c k r d := by
  subst hk; rfl

/-- A round of one duty expects its amount, and hands over its payload. -/
theorem expect_one (sm : SemLoc sig) (k : Kd) (hk : kindOf sm = k) (r : ℕ) (h1 : dutyK k r = {0}) :
    (Rd m).expect ((c : Thread nD τ), sm) r = amtK k := by
  unfold Schedule.expect Schedule.amountOf
  rw [duties_tc m c sm k hk, h1, Finset.sum_singleton, amount_tc m c sm k hk]
theorem rest_one (sm : SemLoc sig) (k : Kd) (hk : kindOf sm = k) (r : ℕ) (h1 : dutyK k r = {0}) :
    bigSep ((Rd m).duties ((c : Thread nD τ), sm) r \ ∅) (fun u => (Rd m).payload ((c : Thread nD τ), sm) r u) = payK m c k r 0 := by
  rw [Finset.sdiff_empty, duties_tc m c sm k hk, h1, bigSep_singleton, payload_tc m c sm k hk]
theorem expect_bar : (Rd m).expect (barC c) 0 = 7 := by
  unfold Schedule.expect Schedule.amountOf
  rw [duties_tc m c _ _ kind_bar]
  rfl
theorem rest_bar : bigSep ((Rd m).duties (barC c) 0 \ ∅) (fun u => (Rd m).payload (barC c) 0 u) = bigSep Finset.univ (barPay (F := F) c) := by
  rw [Finset.sdiff_empty, duties_tc m c _ _ kind_bar]
  rfl

end Facts

end Cert.KernelIdeal.Ring

end
-- ==== Proof.IdealSteps.lean ====
/-
  What a device owes and the levels of its waits, what every device may consult, and the waits.
-/
module

public import proofs.«01_k».proof.Proof.IdealSched

@[expose] public section

noncomputable section

namespace Cert.KernelIdeal.Ring

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig ℕ (Elt F) ℕ UU ℕ

variable (m : (ℓ : Loc nD τ sig) → Buf (Elt F) ℓ)

/-! ## What a device owes, and the levels -/

/-- What device `c` pays on the other devices, in the order the kernel pays it. -/
def dues (c : Dev nD) : List (GSem nD τ sig × ℕ × ℕ) :=
  [ (barC (rt 1 c), 0, 1), (barC (rt 2 c), 0, 1), (barC (rt 3 c), 0, 1), (barC (rt 4 c), 0, 1), (barC (rt 5 c), 0, 1),
    (barC (rt 6 c), 0, 1), (barC (rt 7 c), 0, 1),
    (drecvC (rt 1 c) 0, 0, Nc),
    (srecvC (rt 1 c) 0, 0, Ns), (srecvC (rt 2 c) 1, 0, Ns), (srecvC (rt 3 c) 2, 0, Ns), (srecvC (rt 4 c) 3, 0, Ns),
    (srecvC (rt 5 c) 4, 0, Ns), (srecvC (rt 6 c) 5, 0, Ns), (srecvC (rt 7 c) 6, 0, Ns),
    (drecvC (rt 1 c) 1, 0, Nc), (creditC (rt 7 c), 0, 1),
    (drecvC (rt 1 c) 2, 0, Nc), (creditC (rt 7 c), 1, 1),
    (drecvC (rt 1 c) 3, 0, Nc), (creditC (rt 7 c), 2, 1),
    (drecvC (rt 1 c) 4, 0, Nc), (creditC (rt 7 c), 3, 1),
    (drecvC (rt 1 c) 5, 0, Nc), (creditC (rt 7 c), 4, 1),
    (drecvC (rt 1 c) 6, 0, Nc) ]

def owedL : List (GSem nD τ sig × ℕ × ℕ) → CellTallies nD τ sig ℕ
  | [] => 0
  | x :: l => owedL l + tallyAt x.1 x.2.1 x.2.2

/-- What is still owed once `n` payments are made. -/
def owed (c : Dev nD) (n : ℕ) : CellTallies nD τ sig ℕ := owedL ((dues c).drop n)

theorem owedL_pos (l : List (GSem nD τ sig × ℕ × ℕ)) (g : GSem nD τ sig) (u : ℕ) (h : 0 < owedL l g u) :
    ∃ x ∈ l, g = x.1 ∧ u = x.2.1 := by
  induction l with
  | nil => exact absurd h (Nat.lt_irrefl 0)
  | cons x l ih =>
    rw [owedL, Pi.add_apply, Finsupp.add_apply] at h
    rcases Nat.add_pos_iff_pos_or_pos.mp h with h | h
    · obtain ⟨y, hy, e⟩ := ih h
      exact ⟨y, List.mem_cons_of_mem _ hy, e⟩
    · rw [tallyAt_apply] at h
      split at h
      · next e => exact ⟨x, List.mem_cons_self, e⟩
      · exact absurd h (Nat.lt_irrefl 0)

def levK : Kd → ℕ → ℕ
  | .none, _ => 0 | .bar, _ => 1 | .credit, i => 2 * i + 5
  | .dsend _, _ => 0 | .drecv h, _ => if h.val = 0 then 3 else 2 * h.val + 2
  | .ssend _, _ => 0 | .srecv _, _ => 2 | .osem _, _ => 0
def L (g : GSem nD τ sig) : Finset ℕ := if g.1.2 = .tc then Finset.range 5 else ∅
def lv (g : GSem nD τ sig) (i : ℕ) : ℕ := levK (kindOf g.2) i

theorem L_of_ne (g : GSem nD τ sig) (h : g.1.2 ≠ .tc) : L g = ∅ := if_neg h
theorem L_tc (c : Dev nD) (sm : SemLoc sig) : L ((c : Thread nD τ), sm) = Finset.range 5 := by unfold L; exact if_pos rfl

def levs : List ℕ := [1, 1, 1, 1, 1, 1, 1, 3, 2, 2, 2, 2, 2, 2, 2, 4, 5, 6, 7, 8, 9, 10, 11, 12, 13, 14]
theorem dues_levs (c : Dev nD) : (dues c).map (fun x => lv x.1 x.2.1) = levs := rfl
theorem dues_L (c : Dev nD) : ∀ x ∈ dues c, x.2.1 ∈ L x.1 := by
  unfold dues
  simp only [List.forall_mem_cons, L_tc]
  decide

theorem dues_lev (c : Dev nD) (n b : ℕ) (h : ∀ l ∈ levs.drop n, b < l) : ∀ x ∈ (dues c).drop n, b < lv x.1 x.2.1 := by
  intro x hx
  refine h _ ?_
  rw [← dues_levs c, ← List.map_drop]
  exact List.mem_map_of_mem hx

theorem mayWait (c : Dev nD) (sm : SemLoc sig) (i n : ℕ) (hi : i < 5) (h : ∀ l ∈ levs.drop n, levK (kindOf sm) i < l) :
    (levAts L lv : sProp 𝕄) ⊢ MayWait (c : Thread nD τ) sm i (owed c n) :=
  MayOwe.of_cut (L := L) (lev := lv) (levK (kindOf sm) i)
    (fun p hp => by rw [Finset.mem_singleton.mp hp, L_tc]; exact Finset.mem_range.mpr hi)
    (fun g u hg => by
      obtain ⟨x, hx, rfl, rfl⟩ := owedL_pos _ g u hg
      exact dues_L c x (List.mem_of_mem_drop hx))
    (fun p hp => by rw [Finset.mem_singleton.mp hp]; exact le_rfl)
    (fun g u hg => by
      obtain ⟨x, hx, rfl, rfl⟩ := owedL_pos _ g u hg
      exact dues_lev c n _ h x hx)

/-! ## What every device may consult -/

/-- The kernel's own semaphores. -/
def osem0 (k : Fin 31) : SemLoc sig :=
  if h : k.val < 30 then .dma ⟨k.val + 2, by show _ < 32; omega⟩ else .reg creditS
theorem osem0_inj : Function.Injective osem0 := by decide +kernel
theorem osem0_ne_bar : ∀ k : Fin 31, osem0 k ≠ .reg barS := by decide +kernel

def barEmb : Dev nD ↪ GSem nD τ sig := ⟨fun c => barC c, fun _ _ h => congrArg (fun g : GSem nD τ sig => g.1.1) h⟩
def scEmb : Dev nD × Fin 31 ↪ GSem nD τ sig :=
  ⟨fun ck => ((ck.1 : Thread nD τ), osem0 ck.2), fun _ _ h =>
    Prod.ext (congrArg (fun g : GSem nD τ sig => g.1.1) h) (osem0_inj (congrArg Prod.snd h))⟩
abbrev barCells : Finset (GSem nD τ sig) := Finset.univ.map barEmb
abbrev scCells : Finset (GSem nD τ sig) := Finset.univ.map scEmb

theorem bar_mem (c : Dev nD) : barC c ∈ (barCells ∪ scCells : Finset (GSem nD τ sig)) :=
  Finset.mem_union_left _ (Finset.mem_map_of_mem barEmb (Finset.mem_univ c))
theorem sc_mem (c : Dev nD) (k : Fin 31) : ((c : Thread nD τ), osem0 k) ∈ (barCells ∪ scCells : Finset (GSem nD τ sig)) :=
  Finset.mem_union_right _ (Finset.mem_map_of_mem scEmb (Finset.mem_univ (c, k)))

/-- A semaphore of the kernel's own, by its kind. -/
def Own (sm : SemLoc sig) : Prop := ∃ k : Fin 31, osem0 k = sm
theorem own_credit : Own (.reg creditS) := ⟨30, rfl⟩
theorem own_dsend (h : Fin 7) : Own (.dma (dsendS h)) := ⟨⟨h.val, by omega⟩, by revert h; decide +kernel⟩
theorem own_drecv (h : Fin 7) : Own (.dma (drecvS h)) := ⟨⟨7 + h.val, by omega⟩, by revert h; decide +kernel⟩
theorem own_ssend (h : Fin 7) : Own (.dma (ssendS h)) := ⟨⟨14 + h.val, by omega⟩, by revert h; decide +kernel⟩
theorem own_srecv (h : Fin 7) : Own (.dma (srecvS h)) := ⟨⟨21 + h.val, by omega⟩, by revert h; decide +kernel⟩
theorem own_osem (h : Fin 2) : Own (.dma (osemS h)) := ⟨⟨28 + h.val, by omega⟩, by revert h; decide +kernel⟩

/-- All cells' invariants under one map of names, and that every barrier cell is open. -/
def records (K : GSem nD τ sig → ℕ) : sProp 𝕄 :=
  iprop((bigSep (barCells ∪ scCells) fun g => cellInv ER (Rd m) (K g) g) ∗ bigSep barCells fun g => reached ER g 0)
instance records_persistent (K : GSem nD τ sig → ℕ) : BI.Persistent (records m K) := by unfold records; infer_instance

/-- Device `c`'s own cells are open. -/
def ownOpen (c : Dev nD) : sProp 𝕄 := bigSep Finset.univ fun k : Fin 31 => reached ER ((c : Thread nD τ), osem0 k) 0
instance ownOpen_persistent (c : Dev nD) : BI.Persistent (ownOpen (F := F) c) := by unfold ownOpen; infer_instance

def ctx (K : GSem nD τ sig → ℕ) (c : Dev nD) : sProp 𝕄 := iprop(records m K ∗ ownOpen c ∗ levAts L lv)
instance ctx_persistent (K : GSem nD τ sig → ℕ) (c : Dev nD) : BI.Persistent (ctx m K c) := by unfold ctx; infer_instance

section Ctx

variable (K : GSem nD τ sig → ℕ) (c : Dev nD)

theorem ctx_inv {g : GSem nD τ sig} (hg : g ∈ (barCells ∪ scCells : Finset (GSem nD τ sig))) : ctx m K c ⊢ cellInv ER (Rd m) (K g) g := by
  unfold ctx records
  iintro ⟨⟨H, -⟩, -, -⟩
  have e : (bigSep (barCells ∪ scCells) fun g => cellInv ER (Rd m) (K g) g : sProp 𝕄) ⊢ cellInv ER (Rd m) (K g) g := bigSep_elim hg
  iapply e; iexact H
theorem ctx_inv_bar (d : Dev nD) : ctx m K c ⊢ cellInv ER (Rd m) (K (barC d)) (barC d) := ctx_inv m K c (bar_mem d)
theorem ctx_inv_own (d : Dev nD) {sm : SemLoc sig} (h : Own sm) :
    ctx m K c ⊢ cellInv ER (Rd m) (K ((d : Thread nD τ), sm)) ((d : Thread nD τ), sm) := by
  obtain ⟨k, rfl⟩ := h; exact ctx_inv m K c (sc_mem d k)
theorem ctx_bar (d : Dev nD) : ctx m K c ⊢ reached ER (barC d) 0 := by
  unfold ctx records
  iintro ⟨⟨-, H⟩, -, -⟩
  have e : (bigSep barCells fun g => reached ER g 0 : sProp 𝕄) ⊢ reached ER (barC d) 0 :=
    bigSep_elim (Finset.mem_map_of_mem barEmb (Finset.mem_univ d))
  iapply e; iexact H
theorem ctx_own {sm : SemLoc sig} (h : Own sm) : ctx m K c ⊢ reached ER ((c : Thread nD τ), sm) 0 := by
  obtain ⟨k, rfl⟩ := h
  unfold ctx ownOpen
  iintro ⟨-, H, -⟩
  have e : (bigSep Finset.univ fun k : Fin 31 => reached ER ((c : Thread nD τ), osem0 k) 0 : sProp 𝕄)
      ⊢ reached ER ((c : Thread nD τ), osem0 k) 0 := bigSep_elim (Finset.mem_univ k)
  iapply e; iexact H
theorem ctx_lev : ctx m K c ⊢ levAts L lv := by
  unfold ctx
  iintro ⟨-, -, H⟩; iexact H

end Ctx

abbrev 𝒱₀ : Variants := Variants.none

/-- What `c` owes after `n` payments, whatever it has waited for. -/
def owe (c : Dev nD) (n : ℕ) : sProp 𝕄 := iprop(∃ W, owes (c : Thread nD τ) (owed c n) W)

/-- Close a cell past its last round. -/
theorem close (K : GSem nD τ sig → ℕ) (g : GSem nD τ sig) (R : ℕ) (hg : ∀ r, R ≤ r → dutyK (kindOf g.2) r = ∅) :
    iprop(cellInv ER (Rd m) (K g) g ∗ atPos ER g R ∅ 0) ⊢ (|={Set.univ}=> semVal g 0 : sProp 𝕄) :=
  Rounds.cell_close ER (Rd m) (Set.mem_univ (K g)) id (fun r hr => by
    dsimp only [Rd]; rw [hg r hr]; exact ite_self ∅)

section Wait

variable (K : GSem nD τ sig → ℕ) (c : Dev nD)

/-- A wait for a round of one duty. -/
theorem wait1 {w : TpuEff nD τ sig (Elt F) Λ₀ (c : Thread nD τ).2 PUnit} (sm : SemLoc sig) (k : Kd) (hk : kindOf sm = k) (r N i n : ℕ)
    (h1 : dutyK k r = {0}) (hN : amtK k = N)
    (hw : ∀ K' : PUnit → sProp 𝕄, wpE (defs₀ (F := F)) 𝒱₀ (c : Thread nD τ) none Set.univ w K' = waitSpec (c : Thread nD τ) Set.univ sm N K')
    (hi : i < 5) (hl : ∀ l ∈ levs.drop n, levK k i < l) (ho : Own sm)
    {α : Type} {Q : α → sProp 𝕄} {kont : PUnit → Prog (TpuEff nD τ sig (Elt F) Λ₀ (c : Thread nD τ).2) α} :
    iprop(ctx m K c ∗ cred (tallyAt ((c : Thread nD τ), sm) i N) ∗ owe c n ∗ atPos ER ((c : Thread nD τ), sm) r ∅ 0)
      ⊢ iprop(((owe c n ∗ atPos ER ((c : Thread nD τ), sm) (r + 1) ∅ 0 ∗ reached ER ((c : Thread nD τ), sm) (r + 1) ∗ payK m c k r 0)
            -∗ wp frame (wpE (defs₀ (F := F)) 𝒱₀ (c : Thread nD τ) none) Set.univ (kont ⟨⟩) Q)
          -∗ wp frame (wpE (defs₀ (F := F)) 𝒱₀ (c : Thread nD τ) none) Set.univ (.op w kont) Q) := by
  unfold owe
  iintro ⟨#Hc, Hcr, ⟨%W, HO⟩, Hat⟩ Hk
  iapply (Rounds.wp_wait_rest_token 𝒱₀ ER (Rd m) (c : Thread nD τ) none (κ := K ((c : Thread nD τ), sm))
      hw (Set.mem_univ _) i (O := owed c n) (W := W) (R := r) (m := 0) (T := ∅)
      ((Nat.zero_add _).trans ((expect_one m c sm k hk r h1).trans hN).symm)) $$ [Hcr HO Hat]
  · isplitr; · iapply (ctx_inv_own m K c c ho); iexact Hc
    isplitl [Hcr]; · iexact Hcr
    isplitl [HO]; · iexact HO
    isplitr; · iapply (mayWait c sm i n hi (by rw [hk]; exact hl)); iapply (ctx_lev m K c); iexact Hc
    iexact Hat
  iintro ⟨HO, Hat, Hr, Hpay⟩
  ihave Hp := (Entails.of_eq (rest_one m c sm k hk r h1)) $$ Hpay
  iapply Hk
  isplitl [HO]; · iexists _; iexact HO
  isplitl [Hat]; · iexact Hat
  isplitl [Hr]; · iexact Hr
  iexact Hp

/-- The same at a cell of one round, which it closes. -/
theorem wait_close {w : TpuEff nD τ sig (Elt F) Λ₀ (c : Thread nD τ).2 PUnit} (sm : SemLoc sig) (k : Kd) (hk : kindOf sm = k) (r N i n : ℕ)
    (h1 : dutyK k r = {0}) (hN : amtK k = N)
    (hw : ∀ K' : PUnit → sProp 𝕄, wpE (defs₀ (F := F)) 𝒱₀ (c : Thread nD τ) none Set.univ w K' = waitSpec (c : Thread nD τ) Set.univ sm N K')
    (hi : i < 5) (hl : ∀ l ∈ levs.drop n, levK k i < l) (ho : Own sm) (hlast : ∀ r', r + 1 ≤ r' → dutyK k r' = ∅)
    {α : Type} {Q : α → sProp 𝕄} {kont : PUnit → Prog (TpuEff nD τ sig (Elt F) Λ₀ (c : Thread nD τ).2) α} :
    iprop(ctx m K c ∗ cred (tallyAt ((c : Thread nD τ), sm) i N) ∗ owe c n ∗ atPos ER ((c : Thread nD τ), sm) r ∅ 0)
      ⊢ iprop(((owe c n ∗ semVal ((c : Thread nD τ), sm) 0 ∗ payK m c k r 0)
            -∗ wp frame (wpE (defs₀ (F := F)) 𝒱₀ (c : Thread nD τ) none) Set.univ (kont ⟨⟩) Q)
          -∗ wp frame (wpE (defs₀ (F := F)) 𝒱₀ (c : Thread nD τ) none) Set.univ (.op w kont) Q) := by
  iintro ⟨#Hc, Hcr, HO, Hat⟩ Hk
  iapply (wait1 m K c sm k hk r N i n h1 hN hw hi hl ho) $$ [Hcr HO Hat]
  · isplitr; · iexact Hc
    isplitl [Hcr]; · iexact Hcr
    isplitl [HO]; · iexact HO
    iexact Hat
  iintro ⟨HO, Hat, -, Hp⟩
  imod (close m K ((c : Thread nD τ), sm) (r + 1) (by rw [hk]; exact hlast)) $$ [Hat] with Hs
  · isplitr; · iapply (ctx_inv_own m K c c ho); iexact Hc
    iexact Hat
  iapply Hk
  isplitl [HO]; · iexact HO
  isplitl [Hs]; · iexact Hs
  iexact Hp

end Wait

end Cert.KernelIdeal.Ring

end
-- ==== Proof.IdealBar.lean ====
/-
  What device `c` holds for each of its actions, and the barrier.
-/
module

public import proofs.«01_k».proof.Proof.IdealSteps

@[expose] public section

noncomputable section

namespace Cert.KernelIdeal.Ring

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig ℕ (Elt F) ℕ UU ℕ

variable (m : (ℓ : Loc nD τ sig) → Buf (Elt F) ℓ)

/-! ## Contents under a view -/

/-- What was there before a whole write does not matter under the view. -/
theorem pts_write {sp : Space} {s : Shape} {e : EltTy} (M : Memref sig .tc sp s e) (c : Dev nD) (q : PosShare TreeShare)
    (f g : Buf (Elt F) (M.view.loc (c : Thread nD τ))) (X Y : s.Idx → Elt F e) (h : X = Y) :
    (M.view.loc (c : Thread nD τ) ↦[M.view.set]{q} M.view.write (Elt F) f X Finset.univ : sProp 𝕄)
      = (M.view.loc (c : Thread nD τ) ↦[M.view.set]{q} M.view.write (Elt F) g Y Finset.univ) :=
  pointsTo_congr fun i hi => View.write_congr (fun x _ _ => by rw [h]) (fun hn => absurd hi hn)

theorem read_commC (sl : Fin 2) (c : Dev nD) (X : S512x8192.Idx → Elt F .bf16) : (commV sl).view.read (Elt F) (commC m sl c X) = X :=
  View.read_write_univ _ _

/-! ## Splitting a slot between a reader and a transfer -/

theorem commAt_split (c : Dev nD) (h : Fin 7) :
    commAt m c h fullShare ⊢ iprop(commAt m c h fullShare.left ∗ commAt m c h fullShare.right) :=
  (pointsTo_share (PosShare.mem_left_op_right _)).1
theorem commAt_join (c : Dev nD) (h : Fin 7) :
    iprop(commAt m c h fullShare.left ∗ commAt m c h fullShare.right) ⊢ commAt m c h fullShare :=
  (pointsTo_share (PosShare.mem_left_op_right _)).2
theorem commAt_any (c : Dev nD) (h : Fin 7) (sl : Fin 2) (hs : slotOf h = sl) : commAt m c h fullShare ⊢ commAny c sl := by
  subst hs; unfold commAt commAny
  iintro H; iexists _; iexact H
theorem ePts_split (c : Dev nD) : ePts m c fullShare ⊢ iprop(ePts m c fullShare.left ∗ ePts m c fullShare.right) :=
  (pointsTo_share (PosShare.mem_left_op_right _)).1
theorem ePts_join (c : Dev nD) : iprop(ePts m c fullShare.left ∗ ePts m c fullShare.right) ⊢ ePts m c fullShare :=
  (pointsTo_share (PosShare.mem_left_op_right _)).2
theorem sPts_split (c : Dev nD) (j : ℕ) : sPts m c (shK j) ⊢ iprop(sPts m c (shK (j + 1)) ∗ sPts m c (shS j)) :=
  (pointsTo_share (PosShare.mem_left_op_right _)).1
theorem sPts_join (c : Dev nD) (j : ℕ) : iprop(sPts m c (shK (j + 1)) ∗ sPts m c (shS j)) ⊢ sPts m c (shK j) :=
  (pointsTo_share (PosShare.mem_left_op_right _)).2

/-! ## What device `c` holds for each of its actions -/

/-- For the signal to the barrier of the device `k + 1` to the right. -/
def tBar (c : Dev nD) (k : Fin 7) : sProp 𝕄 := dutyTok ER (barC (rt (k.val + 1) c)) 0 k
/-- For its own barrier wait. -/
def wBar (c : Dev nD) : sProp 𝕄 := iprop(atPos ER (barC c) 0 ∅ 0 ∗ cred (tallyAt (barC c) 0 7))
/-- For ring step `h`: the transfer's two payments; the wait for its source; the wait for what lands. -/
def tD (c : Dev nD) (h : Fin 7) : sProp 𝕄 := iprop(dutyTok ER (dsendC c h) 0 0 ∗ dutyTok ER (drecvC (rt 1 c) h) 0 0)
def wDs (c : Dev nD) (h : Fin 7) : sProp 𝕄 := atPos ER (dsendC c h) 0 ∅ 0
def cDs (c : Dev nD) (h : Fin 7) : sProp 𝕄 := cred (tallyAt (dsendC c h) 0 Nc)
def wDr (c : Dev nD) (h : Fin 7) : sProp 𝕄 := iprop(atPos ER (drecvC c h) 0 ∅ 0 ∗ cred (tallyAt (drecvC c h) 0 Nc))
/-- The same for statistics transfer `j`. -/
def tSt (c : Dev nD) (j : Fin 7) : sProp 𝕄 := iprop(dutyTok ER (ssendC c j) 0 0 ∗ dutyTok ER (srecvC (rt (j.val + 1) c) j) 0 0)
def wSs (c : Dev nD) (h : Fin 7) : sProp 𝕄 := atPos ER (ssendC c h) 0 ∅ 0
def cSs (c : Dev nD) (h : Fin 7) : sProp 𝕄 := cred (tallyAt (ssendC c h) 0 Ns)
def wSr (c : Dev nD) (h : Fin 7) : sProp 𝕄 := iprop(atPos ER (srecvC c h) 0 ∅ 0 ∗ cred (tallyAt (srecvC c h) 0 Ns))
/-- For credit round `r`: the payment to the left neighbour; the own cell's standing; the units to wait with. -/
def tCr (c : Dev nD) (r : Fin 5) : sProp 𝕄 := dutyTok ER (creditC (rt 7 c)) r.val 0
def pCr (c : Dev nD) (r : ℕ) : sProp 𝕄 := iprop(atPos ER (creditC c) r ∅ 0 ∗ reached ER (creditC c) r)
def wCr (c : Dev nD) (r : Fin 5) : sProp 𝕄 := cred (tallyAt (creditC c) r.val 1)
/-- For output block `n`: the transfer's payment with the block; the own cell's standing; the units to wait with. -/
def tO (c : Dev nD) (n : Fin 16) : sProp 𝕄 := iprop(dutyTok ER (osemC c (gSlot n)) (n.val / 2) 0 ∗ outAny c n)
def pO (c : Dev nD) (sl : Fin 2) (r : ℕ) : sProp 𝕄 := iprop(atPos ER (osemC c sl) r ∅ 0 ∗ reached ER (osemC c sl) r)
def cO (c : Dev nD) (n : Fin 16) : sProp 𝕄 := cred (tallyAt (osemC c (gSlot n)) 0 No)
/-- The staging slot filled with block `n`. -/
def stageF (c : Dev nD) (n : Fin 16) : sProp 𝕄 := stagePts c (gSlot n) (stageC m c n)

abbrev wpc (c : Dev nD) {α : Type} (p : Prog (TpuEff nD τ sig (Elt F) Λ₀ (c : Thread nD τ).2) α) (Q : α → sProp 𝕄) : sProp 𝕄 :=
  wp frame (wpE (defs₀ (F := F)) 𝒱₀ (c : Thread nD τ) none) Set.univ p Q

instance rOpen_persistent (c : Dev nD) : BI.Persistent (rOpen (F := F) c) := by unfold rOpen; infer_instance

theorem owed_succ (c : Dev nD) (n : ℕ) (x : GSem nD τ sig × ℕ × ℕ) (h : (dues c)[n]? = some x) :
    owed c n = owed c (n + 1) + tallyAt x.1 x.2.1 x.2.2 := by
  unfold owed
  obtain ⟨hl, he⟩ := List.getElem?_eq_some_iff.mp h
  rw [List.drop_eq_getElem_cons hl, he]
  rfl

section Ops

variable (K : GSem nD τ sig → ℕ) (c : Dev nD)

/-! ## The barrier -/

/-- A signal to another device's barrier. -/
theorem st_sig (k : Fin 7) (hk6 : k ≠ 6) (dev : Dev nD) (hd : dev = rt (k.val + 1) c) (sem : Sem sig) (hs : sem = barS)
    {α : Type} {Q : α → sProp 𝕄} {kont : PUnit → Prog (TpuEff nD τ sig (Elt F) Λ₀ (c : Thread nD τ).2) α} :
    iprop(ctx m K c ∗ owe c k.val ∗ tBar c k ∗ statAny c k.rev)
      ⊢ iprop((owe c (k.val + 1) -∗ wpc c (kont ⟨⟩) Q) -∗ wpc c (.op (.semSignal (dev : Thread nD τ) sem ((1 : ℕ) : ℤ)) kont) Q) := by
  subst hd hs
  unfold owe tBar
  iintro ⟨#Hc, ⟨%W, HO⟩, Ht, Hs⟩ Hk
  iapply (Rounds.wp_signal 𝒱₀ ER (Rd m) (c : Thread nD τ) none (dst := (rt (k.val + 1) c : Thread nD τ)) (sem := barS) (r := 0) (d := k)
      (κ := K (barC (rt (k.val + 1) c))) (by rw [duties_tc m _ _ _ kind_bar]; exact Finset.mem_univ _) (amount_tc m _ _ _ kind_bar 0 k) 0
      (owed c (k.val + 1)) (owed_succ c k.val (barC (rt (k.val + 1) c), 0, 1) (by revert k; intro k _; fin_cases k <;> rfl)))
    $$ [HO Ht Hs]
  · isplitr; · iapply (ctx_inv_bar m K c _); iexact Hc
    isplitl [HO]; · iexact HO
    isplitl [Ht]; · iexact Ht
    isplitl [Hs]
    · rw [payload_tc m _ _ _ kind_bar]
      dsimp only [payK]
      unfold barPay barRest dstS
      rw [if_neg hk6, rt_rt_eq _ _ _ (by rw [Fin.val_rev]; omega)]
      isplitl [Hs]
      · isplitl [Hs]; · iexact Hs
        iapply (ctx_own m K c (own_srecv _)); iexact Hc
      · iempintro
    · iapply (ctx_bar m K c _); iexact Hc
  iintro HO
  iapply Hk
  iexists W; iexact HO

/-- The last, to the left neighbour, with both ring slots. -/
theorem st_sig6 (dev : Dev nD) (hd : dev = rt 7 c) (sem : Sem sig) (hs : sem = barS)
    {α : Type} {Q : α → sProp 𝕄} {kont : PUnit → Prog (TpuEff nD τ sig (Elt F) Λ₀ (c : Thread nD τ).2) α} :
    iprop(ctx m K c ∗ owe c 6 ∗ tBar c 6 ∗ statAny c 0 ∗ commAny c 0 ∗ commAny c 1)
      ⊢ iprop((owe c 7 -∗ wpc c (kont ⟨⟩) Q) -∗ wpc c (.op (.semSignal (dev : Thread nD τ) sem ((1 : ℕ) : ℤ)) kont) Q) := by
  subst hd hs
  unfold owe tBar
  iintro ⟨#Hc, ⟨%W, HO⟩, Ht, Hs, H0, H1⟩ Hk
  iapply (Rounds.wp_signal 𝒱₀ ER (Rd m) (c : Thread nD τ) none (dst := (rt 7 c : Thread nD τ)) (sem := barS) (r := 0) (d := 6)
      (κ := K (barC (rt 7 c))) (by rw [duties_tc m _ _ _ kind_bar]; exact Finset.mem_univ _) (amount_tc m _ _ _ kind_bar 0 6) 0
      (owed c 7) (owed_succ c 6 (barC (rt 7 c), 0, 1) rfl))
    $$ [HO Ht Hs H0 H1]
  · isplitr; · iapply (ctx_inv_bar m K c _); iexact Hc
    isplitl [HO]; · iexact HO
    isplitl [Ht]; · iexact Ht
    isplitl [Hs H0 H1]
    · rw [payload_tc m _ _ _ kind_bar]
      dsimp only [payK]
      unfold barPay barRest dstS dstC rOpen
      rw [if_pos rfl, rt_rt_eq 1 7 c rfl, rt_rt_eq _ _ c (show (Fin.rev (6 : Fin 7)).val + 1 + 7 = 8 from rfl)]
      isplitl [Hs]
      · isplitl [Hs]; · iexact Hs
        iapply (ctx_own m K c (own_srecv _)); iexact Hc
      · isplitl [H0]; · iexact H0
        isplitl [H1]; · iexact H1
        have e : ctx m K c ⊢ bigSep Finset.univ fun h : Fin 7 => reached ER (drecvC c h) 0 :=
          bigSep_intro_persistent fun h _ => ctx_own m K c (own_drecv h)
        iapply e; iexact Hc
    · iapply (ctx_bar m K c _); iexact Hc
  iintro HO
  iapply Hk
  iexists W; iexact HO

/-- What the barrier hands over. -/
def barGot (c : Dev nD) : sProp 𝕄 :=
  iprop((dstS c 0 ∗ dstS c 1 ∗ dstS c 2 ∗ dstS c 3 ∗ dstS c 4 ∗ dstS c 5 ∗ dstS c 6) ∗ dstC c 0 ∗ dstC c 1 ∗ rOpen c)

theorem barPay_all : bigSep Finset.univ (barPay (F := F) c) ⊢ barGot c := by
  have e : (bigSep Finset.univ (barPay (F := F) c) : sProp 𝕄)
      = iprop(barPay c 0 ∗ barPay c 1 ∗ barPay c 2 ∗ barPay c 3 ∗ barPay c 4 ∗ barPay c 5 ∗ barPay c 6) := by
    rw [bigSep_univ_eq_bigSepL [0, 1, 2, 3, 4, 5, 6] (by decide) (by decide)]; rfl
  rw [e]
  unfold barPay barRest barGot
  rw [if_neg (by decide), if_neg (by decide), if_neg (by decide), if_neg (by decide), if_neg (by decide), if_neg (by decide), if_pos rfl]
  iintro ⟨⟨H6, -⟩, ⟨H5, -⟩, ⟨H4, -⟩, ⟨H3, -⟩, ⟨H2, -⟩, ⟨H1, -⟩, H0, C0, C1, R⟩
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  isplitl [C0]; · iexact C0
  isplitl [C1]; · iexact C1
  iexact R

/-- The wait on the own barrier. -/
theorem st_bar (sem : Sem sig) (hs : sem = barS)
    {α : Type} {Q : α → sProp 𝕄} {kont : PUnit → Prog (TpuEff nD τ sig (Elt F) Λ₀ (c : Thread nD τ).2) α} :
    iprop(ctx m K c ∗ owe c 7 ∗ wBar c)
      ⊢ iprop(((owe c 7 ∗ semVal (barC c) 0 ∗ barGot c) -∗ wpc c (kont ⟨⟩) Q) -∗ wpc c (.op (.semWait sem ((7 : ℕ) : ℤ)) kont) Q) := by
  subst hs
  unfold owe wBar
  iintro ⟨#Hc, ⟨%W, HO⟩, Hat, Hcr⟩ Hk
  iapply (Rounds.wp_wait_rest_token 𝒱₀ ER (Rd m) (c : Thread nD τ) none (κ := K (barC c))
      (wpE_semWait_eq 𝒱₀ (c : Thread nD τ) none Set.univ) (Set.mem_univ _) 0 (O := owed c 7) (W := W) (R := 0) (m := 0) (T := ∅)
      ((Nat.zero_add 7).trans (expect_bar m c).symm)) $$ [Hcr HO Hat]
  · isplitr; · iapply (ctx_inv_bar m K c c); iexact Hc
    isplitl [Hcr]; · iexact Hcr
    isplitl [HO]; · iexact HO
    isplitr; · iapply (mayWait c (.reg barS) 0 7 (by decide) (by decide)); iapply (ctx_lev m K c); iexact Hc
    iexact Hat
  iintro ⟨HO, Hat, -, Hpay⟩
  ihave Hp := (Entails.of_eq (rest_bar m c)) $$ Hpay
  ihave Hg := (barPay_all c) $$ Hp
  imod (close m K (barC c) 1 (fun r hr => if_neg (by omega))) $$ [Hat] with Hs
  · isplitr; · iapply (ctx_inv_bar m K c c); iexact Hc
    iexact Hat
  iapply Hk
  isplitl [HO]; · iexists _; iexact HO
  isplitl [Hs]; · iexact Hs
  iexact Hg

/-- With ring step `1 .. 5` the next round of the own credit is handed over as open. -/
def crOpen (c : Dev nD) (h : Fin 7) : sProp 𝕄 := if 1 ≤ h.val ∧ h.val ≤ 5 then reached ER (creditC c) (h.val - 1) else iprop(emp)
instance crOpen_persistent (h : Fin 7) : BI.Persistent (crOpen (F := F) c h) := by unfold crOpen; split <;> infer_instance

theorem crOpen_of (h : Fin 7) : crOpen c h ⊢ rCredit (F := F) (rt 1 c) h := by
  unfold crOpen rCredit
  rw [rt_rt_eq 7 1 c rfl]

end Ops

end Cert.KernelIdeal.Ring

end
-- ==== Proof.IdealSend.lean ====
/-
  The transfers to the other devices.
-/
module

public import proofs.«01_k».proof.Proof.IdealBar

@[expose] public section

noncomputable section

namespace Cert.KernelIdeal.Ring

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig ℕ (Elt F) ℕ UU ℕ

variable (m : (ℓ : Loc nD τ sig) → Buf (Elt F) ℓ)

section Ops

variable (K : GSem nD τ sig → ℕ) (c : Dev nD)

/-! ## The ring transfers -/

/-- The first transfer, of the own exponentials. -/
theorem st_send0 (dev : Dev nD) (hd : dev = rt 1 c) (D : Memref sig .tc .vmem S512x8192 .bf16) (hD : D = commV 0)
    (sS sR : DmaSem sig) (hS : sS = dsendS 0) (hR : sR = drecvS 0)
    {hsc : D.view.ref.isScScratch = false} {hsrc : eM.view.WordExact} {hdst : D.view.WordExact}
    {hsem : DmaTarget.Typed .vmem (.dma sR) (.remote (Dev.tc dev) D (.dma sS) hsc)}
    {α : Type} {Q : α → sProp 𝕄} {kont : PUnit → Prog (TpuEff nD τ sig (Elt F) Λ₀ (c : Thread nD τ).2) α} :
    iprop(ctx m K c ∗ rOpen c ∗ owe c 7 ∗ tD c 0 ∗ ePts m c fullShare.right ∗ dstC c 0)
      ⊢ iprop(((owe c 8 ∗ cDs c 0) -∗ wpc c (kont ⟨⟩) Q)
        -∗ wpc c (.op (.enqueueDma eM (.remote (Dev.tc dev) D (.dma sS) hsc) (.dma sR) hsrc hdst hsem) kont) Q) := by
  subst hd hD hS hR
  unfold owe tD dstC commAny rOpen
  iintro ⟨#Hc, #Hr, ⟨%W, HO⟩, ⟨Ht1, Ht2⟩, He, ⟨%fd, Hd⟩⟩ Hk
  have er : (bigSep Finset.univ fun h : Fin 7 => reached ER (drecvC (rt 1 c) h) 0 : sProp 𝕄) ⊢ reached ER (drecvC (rt 1 c) 0) 0 :=
    bigSep_elim (Finset.mem_univ (0 : Fin 7))
  iapply (Rounds.wp_send_pointsTo 𝒱₀ ER (Rd m) (c : Thread nD τ) none (c' := (rt 1 c : Thread nD τ))
      (src := eM) (dst := commV 0) (sS := .dma (dsendS 0)) (sem := .dma (drecvS 0))
      (κ₁ := K (dsendC c 0)) (κ₂ := K (drecvC (rt 1 c) 0)) (r₁ := 0) (r₂ := 0) (d₁ := 0) (d₂ := 0)
      (by rw [duties_tc m c _ _ (kind_dsend 0)]; exact Finset.mem_singleton_self _) (by rw [duties_tc m _ _ _ (kind_drecv 0)]; exact Finset.mem_singleton_self _)
      0 0 Nc (Nc_eq 0) (amount_tc m c _ _ (kind_dsend 0) 0 0) (amount_tc m _ _ _ (kind_drecv 0) 0 0)
      (owed c 8) (owed_succ c 7 (drecvC (rt 1 c) 0, 0, Nc) rfl)
      (by rw [payload_tc m c _ _ (kind_dsend 0)]; exact Entails.rfl)
      (by
        rw [payload_tc m _ _ _ (kind_drecv 0)]
        dsimp only [payK]
        unfold drecvPay rCredit commAt
        rw [if_neg (by decide)]
        refine (Entails.of_eq (pts_write (commV 0) (rt 1 c) fullShare fd _ _ (landedC m (rt 1 c) 0) ?_)).trans (sep_emp (PROP := sProp 𝕄)).2
        unfold landedC
        rw [rt_rt_eq _ _ c rfl]
        rfl)) $$ [HO Ht1 Ht2 He Hd]
  · isplitr; · iapply (ctx_inv_own m K c c (own_dsend 0)); iexact Hc
    isplitr; · iapply (ctx_inv_own m K c _ (own_drecv 0)); iexact Hc
    isplitl [He]; · iexact He
    isplitl [Hd]; · iexact Hd
    isplitl [HO]; · iexact HO
    isplitl [Ht1]; · iexact Ht1
    isplitr; · iapply (ctx_own m K c (own_dsend 0)); iexact Hc
    isplitl [Ht2]; · iexact Ht2
    iapply er; iexact Hr
  iintro ⟨Hcr, HO⟩
  iapply Hk
  isplitl [HO]; · iexists W; iexact HO
  unfold cDs; iexact Hcr

/-- The transfer of ring step `h ≥ 1`: what step `h - 1` landed goes on. -/
theorem st_send (h g : Fin 7) (hg : g.val + 1 = h.val) (dev : Dev nD) (hd : dev = rt 1 c)
    (S D : Memref sig .tc .vmem S512x8192 .bf16) (hS' : S = commV (slotOf g)) (hD : D = commV (slotOf h))
    (sS sR : DmaSem sig) (hS : sS = dsendS h) (hR : sR = drecvS h) (n : ℕ) (hn : n = 13 + 2 * h.val)
    {hsc : D.view.ref.isScScratch = false} {hsrc : S.view.WordExact} {hdst : D.view.WordExact}
    {hsem : DmaTarget.Typed .vmem (.dma sR) (.remote (Dev.tc dev) D (.dma sS) hsc)}
    {α : Type} {Q : α → sProp 𝕄} {kont : PUnit → Prog (TpuEff nD τ sig (Elt F) Λ₀ (c : Thread nD τ).2) α} :
    iprop(ctx m K c ∗ rOpen c ∗ owe c n ∗ tD c h ∗ commAt m c g fullShare.right ∗ dstC c (slotOf h) ∗ crOpen c h)
      ⊢ iprop(((owe c (n + 1) ∗ cDs c h) -∗ wpc c (kont ⟨⟩) Q)
        -∗ wpc c (.op (.enqueueDma S (.remote (Dev.tc dev) D (.dma sS) hsc) (.dma sR) hsrc hdst hsem) kont) Q) := by
  subst hd hS' hD hS hR
  unfold owe tD dstC commAny rOpen
  iintro ⟨#Hc, #Hr, ⟨%W, HO⟩, ⟨Ht1, Ht2⟩, He, ⟨%fd, Hd⟩, HF⟩ Hk
  have er : (bigSep Finset.univ fun h : Fin 7 => reached ER (drecvC (rt 1 c) h) 0 : sProp 𝕄) ⊢ reached ER (drecvC (rt 1 c) h) 0 :=
    bigSep_elim (Finset.mem_univ h)
  unfold commAt
  iapply (Rounds.wp_send_pointsTo_with 𝒱₀ ER (Rd m) (c : Thread nD τ) none (c' := (rt 1 c : Thread nD τ)) (F := crOpen c h)
      (src := commV (slotOf g)) (dst := commV (slotOf h)) (sS := .dma (dsendS h)) (sem := .dma (drecvS h))
      (κ₁ := K (dsendC c h)) (κ₂ := K (drecvC (rt 1 c) h)) (r₁ := 0) (r₂ := 0) (d₁ := 0) (d₂ := 0)
      (by rw [duties_tc m c _ _ (kind_dsend h)]; exact Finset.mem_singleton_self _) (by rw [duties_tc m _ _ _ (kind_drecv h)]; exact Finset.mem_singleton_self _)
      0 0 Nc (Nc_eq _) (amount_tc m c _ _ (kind_dsend h) 0 0) (amount_tc m _ _ _ (kind_drecv h) 0 0)
      (owed c (n + 1)) (owed_succ c n (drecvC (rt 1 c) h, 0, Nc) (by subst hn; clear * - hg; revert hg; fin_cases h <;> intro hg <;> first | rfl | exact absurd hg (Nat.succ_ne_zero _)))
      (by
        rw [payload_tc m c _ _ (kind_dsend h)]
        dsimp only [payK]
        unfold dsendPay commAt
        rw [dif_neg (by omega)]
        have e : (⟨h.val - 1, by omega⟩ : Fin 7) = g := Fin.ext (by show h.val - 1 = g.val; omega)
        rw [e])
      (by
        rw [payload_tc m _ _ _ (kind_drecv h)]
        dsimp only [payK]
        unfold drecvPay commAt
        refine BI.sep_mono (Entails.of_eq (pts_write (commV (slotOf h)) (rt 1 c) fullShare fd _ _ (landedC m (rt 1 c) h) ?_)) (crOpen_of c h)
        rw [read_commC]
        unfold landedC
        rw [rt_rt, show 7 - h.val + 1 = 7 - g.val by omega])) $$ [HO Ht1 Ht2 He Hd HF]
  · isplitr; · iapply (ctx_inv_own m K c c (own_dsend h)); iexact Hc
    isplitr; · iapply (ctx_inv_own m K c _ (own_drecv h)); iexact Hc
    isplitl [He]; · iexact He
    isplitl [Hd HF]
    · isplitl [Hd]; · iexact Hd
      iexact HF
    isplitl [HO]; · iexact HO
    isplitl [Ht1]; · iexact Ht1
    isplitr; · iapply (ctx_own m K c (own_dsend h)); iexact Hc
    isplitl [Ht2]; · iexact Ht2
    iapply er; iexact Hr
  iintro ⟨Hcr, HO⟩
  iapply Hk
  isplitl [HO]; · iexists W; iexact HO
  unfold cDs; iexact Hcr

/-- What ring step `h` landed, in the halves to read and to pass on. -/
def gotC (c : Dev nD) (h : Fin 7) : sProp 𝕄 := iprop(commAt m c h fullShare.left ∗ commAt m c h fullShare.right ∗ rCredit c h)

theorem st_drecv (h : Fin 7) (n : ℕ) (hn : ∀ l ∈ levs.drop n, levK (.drecv h) 0 < l) {sp' : Space} {s' : Shape} {e' : EltTy}
    (S : Memref sig .tc sp' s' e') (D : Memref sig .tc .vmem S512x8192 .bf16) (hN : D.view.dmaCredit = Nc) (sem : DmaSem sig) (hs : sem = drecvS h)
    {hsrc : S.view.WordExact} {hdst : D.view.WordExact}
    {α : Type} {Q : α → sProp 𝕄} {kont : PUnit → Prog (TpuEff nD τ sig (Elt F) Λ₀ (c : Thread nD τ).2) α} :
    iprop(ctx m K c ∗ owe c n ∗ wDr c h)
      ⊢ iprop(((owe c n ∗ semVal (drecvC c h) 0 ∗ gotC m c h) -∗ wpc c (kont ⟨⟩) Q)
        -∗ wpc c (.op (.waitDma2 sem S D hsrc hdst) kont) Q) := by
  subst hs
  unfold wDr
  iintro ⟨#Hc, HO, Hat, Hcr⟩ Hk
  iapply (wait_close m K c (.dma (drecvS h)) (.drecv h) (kind_drecv h) 0 Nc 0 n rfl rfl
    (fun K' => (wpE_waitDma2_eq 𝒱₀ (c : Thread nD τ) none Set.univ (src := S) (dst := D) K').trans (by rw [hN])) (by decide) hn (own_drecv h)
    (fun r hr => if_neg (by omega))) $$ [Hcr HO Hat]
  · isplitr; · iexact Hc
    isplitl [Hcr]; · iexact Hcr
    isplitl [HO]; · iexact HO
    iexact Hat
  dsimp only [payK]
  unfold drecvPay gotC
  iintro ⟨HO, Hs, Hp, Hr⟩
  ihave Hp2 := (commAt_split m c h) $$ Hp
  icases Hp2 with ⟨Hl, Hr'⟩
  iapply Hk
  isplitl [HO]; · iexact HO
  isplitl [Hs]; · iexact Hs
  isplitl [Hl]; · iexact Hl
  isplitl [Hr']; · iexact Hr'
  iexact Hr

theorem st_dsend (h : Fin 7) (n : ℕ) (hn : ∀ l ∈ levs.drop n, levK (.dsend h) 0 < l) {sp' : Space} {s' : Shape} {e' : EltTy}
    (S : Memref sig .tc sp' s' e') (D : Memref sig .tc .vmem S512x8192 .bf16) (hN : D.view.dmaCredit = Nc) (sem : DmaSem sig) (hs : sem = dsendS h)
    {hsrc : S.view.WordExact} {hdst : D.view.WordExact}
    {α : Type} {Q : α → sProp 𝕄} {kont : PUnit → Prog (TpuEff nD τ sig (Elt F) Λ₀ (c : Thread nD τ).2) α} :
    iprop(ctx m K c ∗ owe c n ∗ wDs c h ∗ cDs c h)
      ⊢ iprop(((owe c n ∗ semVal (dsendC c h) 0 ∗ dsendPay m c h) -∗ wpc c (kont ⟨⟩) Q)
        -∗ wpc c (.op (.waitDma2 sem S D hsrc hdst) kont) Q) := by
  subst hs
  unfold wDs cDs
  iintro ⟨#Hc, HO, Hat, Hcr⟩ Hk
  iapply (wait_close m K c (.dma (dsendS h)) (.dsend h) (kind_dsend h) 0 Nc 0 n rfl rfl
    (fun K' => (wpE_waitDma2_eq 𝒱₀ (c : Thread nD τ) none Set.univ (src := S) (dst := D) K').trans (by rw [hN])) (by decide) hn (own_dsend h)
    (fun r hr => if_neg (by omega))) $$ [Hcr HO Hat]
  · isplitr; · iexact Hc
    isplitl [Hcr]; · iexact Hcr
    isplitl [HO]; · iexact HO
    iexact Hat
  iexact Hk

/-! ## The statistics -/

theorem st_stat (j : Fin 7) (dev : Dev nD) (hd : dev = rt (j.val + 1) c) (D : Memref sig .tc .vmem S512x128 .f32) (hD : D = statV j)
    (sS sR : DmaSem sig) (hS : sS = ssendS j) (hR : sR = srecvS j) (n : ℕ) (hn : n = 8 + j.val)
    {hsc : D.view.ref.isScScratch = false} {hsrc : sM.view.WordExact} {hdst : D.view.WordExact}
    {hsem : DmaTarget.Typed .vmem (.dma sR) (.remote (Dev.tc dev) D (.dma sS) hsc)}
    {α : Type} {Q : α → sProp 𝕄} {kont : PUnit → Prog (TpuEff nD τ sig (Elt F) Λ₀ (c : Thread nD τ).2) α} :
    iprop(ctx m K c ∗ owe c n ∗ tSt c j ∗ sPts m c (shK j.val) ∗ dstS c j)
      ⊢ iprop(((owe c (n + 1) ∗ cSs c j ∗ sPts m c (shK (j.val + 1))) -∗ wpc c (kont ⟨⟩) Q)
        -∗ wpc c (.op (.enqueueDma sM (.remote (Dev.tc dev) D (.dma sS) hsc) (.dma sR) hsrc hdst hsem) kont) Q) := by
  subst hd hD hS hR
  unfold owe tSt dstS statAny
  iintro ⟨#Hc, ⟨%W, HO⟩, ⟨Ht1, Ht2⟩, Hs, ⟨%fd, Hd⟩, #Hr⟩ Hk
  ihave Hs2 := (sPts_split m c j.val) $$ Hs
  icases Hs2 with ⟨Hs, Hl⟩
  iapply (Rounds.wp_send_pointsTo 𝒱₀ ER (Rd m) (c : Thread nD τ) none (c' := (rt (j.val + 1) c : Thread nD τ))
      (src := sM) (dst := statV j) (sS := .dma (ssendS j)) (sem := .dma (srecvS j))
      (κ₁ := K (ssendC c j)) (κ₂ := K (srecvC (rt (j.val + 1) c) j)) (r₁ := 0) (r₂ := 0) (d₁ := 0) (d₂ := 0)
      (by rw [duties_tc m c _ _ (kind_ssend j)]; exact Finset.mem_singleton_self _) (by rw [duties_tc m _ _ _ (kind_srecv j)]; exact Finset.mem_singleton_self _)
      0 0 Ns (Ns_eq j) (amount_tc m c _ _ (kind_ssend j) 0 0) (amount_tc m _ _ _ (kind_srecv j) 0 0)
      (owed c (n + 1)) (owed_succ c n (srecvC (rt (j.val + 1) c) j, 0, Ns) (by subst hn; fin_cases j <;> rfl))
      (by rw [payload_tc m c _ _ (kind_ssend j)]; exact Entails.rfl)
      (by
        rw [payload_tc m _ _ _ (kind_srecv j)]
        dsimp only [payK]
        unfold statAt
        refine Entails.of_eq (pts_write (statV j) (rt (j.val + 1) c) fullShare fd _ _ (landedS m (rt (j.val + 1) c) j) ?_)
        unfold landedS
        rw [rt_rt_eq _ _ c (by omega)]
        rfl)) $$ [HO Ht1 Ht2 Hl Hd]
  · isplitr; · iapply (ctx_inv_own m K c c (own_ssend j)); iexact Hc
    isplitr; · iapply (ctx_inv_own m K c _ (own_srecv j)); iexact Hc
    isplitl [Hl]; · iexact Hl
    isplitl [Hd]; · iexact Hd
    isplitl [HO]; · iexact HO
    isplitl [Ht1]; · iexact Ht1
    isplitr; · iapply (ctx_own m K c (own_ssend j)); iexact Hc
    isplitl [Ht2]; · iexact Ht2
    iexact Hr
  iintro ⟨Hcr, HO⟩
  iapply Hk
  isplitl [HO]; · iexists W; iexact HO
  isplitl [Hcr]; · unfold cSs; iexact Hcr
  iexact Hs

theorem st_srecv (j : Fin 7) {sp' : Space} {s' : Shape} {e' : EltTy}
    (S : Memref sig .tc sp' s' e') (D : Memref sig .tc .vmem S512x128 .f32) (hN : D.view.dmaCredit = Ns) (sem : DmaSem sig) (hs : sem = srecvS j)
    {hsrc : S.view.WordExact} {hdst : D.view.WordExact}
    {α : Type} {Q : α → sProp 𝕄} {kont : PUnit → Prog (TpuEff nD τ sig (Elt F) Λ₀ (c : Thread nD τ).2) α} :
    iprop(ctx m K c ∗ owe c 15 ∗ wSr c j)
      ⊢ iprop(((owe c 15 ∗ semVal (srecvC c j) 0 ∗ statAt m c j) -∗ wpc c (kont ⟨⟩) Q)
        -∗ wpc c (.op (.waitDma2 sem S D hsrc hdst) kont) Q) := by
  subst hs
  unfold wSr
  iintro ⟨#Hc, HO, Hat, Hcr⟩ Hk
  iapply (wait_close m K c (.dma (srecvS j)) (.srecv j) (kind_srecv j) 0 Ns 0 15 rfl rfl
    (fun K' => (wpE_waitDma2_eq 𝒱₀ (c : Thread nD τ) none Set.univ (src := S) (dst := D) K').trans (by rw [hN])) (by decide)
    (by show ∀ l ∈ levs.drop 15, 2 < l; decide) (own_srecv j)
    (fun r hr => if_neg (by omega))) $$ [Hcr HO Hat]
  · isplitr; · iexact Hc
    isplitl [Hcr]; · iexact Hcr
    isplitl [HO]; · iexact HO
    iexact Hat
  iexact Hk

theorem st_ssend (j : Fin 7) {sp' : Space} {s' : Shape} {e' : EltTy}
    (S : Memref sig .tc sp' s' e') (D : Memref sig .tc .vmem S512x128 .f32) (hN : D.view.dmaCredit = Ns) (sem : DmaSem sig) (hs : sem = ssendS j)
    {hsrc : S.view.WordExact} {hdst : D.view.WordExact}
    {α : Type} {Q : α → sProp 𝕄} {kont : PUnit → Prog (TpuEff nD τ sig (Elt F) Λ₀ (c : Thread nD τ).2) α} :
    iprop(ctx m K c ∗ owe c 15 ∗ wSs c j ∗ cSs c j)
      ⊢ iprop(((owe c 15 ∗ semVal (ssendC c j) 0 ∗ sPts m c (shS j.val)) -∗ wpc c (kont ⟨⟩) Q)
        -∗ wpc c (.op (.waitDma2 sem S D hsrc hdst) kont) Q) := by
  subst hs
  unfold wSs cSs
  iintro ⟨#Hc, HO, Hat, Hcr⟩ Hk
  iapply (wait_close m K c (.dma (ssendS j)) (.ssend j) (kind_ssend j) 0 Ns 0 15 rfl rfl
    (fun K' => (wpE_waitDma2_eq 𝒱₀ (c : Thread nD τ) none Set.univ (src := S) (dst := D) K').trans (by rw [hN])) (by decide)
    (by show ∀ l ∈ levs.drop 15, 0 < l; decide) (own_ssend j)
    (fun r hr => if_neg (by omega))) $$ [Hcr HO Hat]
  · isplitr; · iexact Hc
    isplitl [Hcr]; · iexact Hcr
    isplitl [HO]; · iexact HO
    iexact Hat
  iexact Hk

end Ops

end Cert.KernelIdeal.Ring

end
-- ==== Proof.IdealOut.lean ====
/-
  The credits, the result's blocks, and the loads and stores.
-/
module

public import proofs.«01_k».proof.Proof.IdealBar

@[expose] public section

noncomputable section

namespace Cert.KernelIdeal.Ring

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig ℕ (Elt F) ℕ UU ℕ

variable (m : (ℓ : Loc nD τ sig) → Buf (Elt F) ℓ)

section Ops

variable (K : GSem nD τ sig → ℕ) (c : Dev nD)

/-! ## The credits -/

/-- The left neighbour gets the ring slot step `r` used. -/
theorem st_credit (r : Fin 5) (h h' : Fin 7) (hh : h.val = r.val) (hh' : h'.val = r.val + 1) (dev : Dev nD) (hd : dev = rt 7 c)
    (sem : Sem sig) (hs : sem = creditS) (n : ℕ) (hn : n = 16 + 2 * r.val)
    {α : Type} {Q : α → sProp 𝕄} {kont : PUnit → Prog (TpuEff nD τ sig (Elt F) Λ₀ (c : Thread nD τ).2) α} :
    iprop(ctx m K c ∗ owe c n ∗ tCr c r ∗ commAt m c h fullShare.left ∗ commAt m c h fullShare.right ∗ rCredit c h')
      ⊢ iprop((owe c (n + 1) -∗ wpc c (kont ⟨⟩) Q) -∗ wpc c (.op (.semSignal (dev : Thread nD τ) sem ((1 : ℕ) : ℤ)) kont) Q) := by
  subst hd hs
  unfold owe tCr rCredit
  have h5 := r.isLt
  rw [if_pos (by omega), show h'.val - 1 = r.val by omega]
  iintro ⟨#Hc, ⟨%W, HO⟩, Ht, Hl, Hr, Hre⟩ Hk
  iapply (Rounds.wp_signal 𝒱₀ ER (Rd m) (c : Thread nD τ) none (dst := (rt 7 c : Thread nD τ)) (sem := creditS) (r := r.val) (d := 0)
      (κ := K (creditC (rt 7 c))) (by rw [duties_tc m _ _ _ kind_credit]; dsimp only [dutyK]; rw [if_pos h5]; decide)
      (amount_tc m _ _ _ kind_credit r.val 0) r.val
      (owed c (n + 1)) (owed_succ c n (creditC (rt 7 c), r.val, 1) (by subst hn; clear * -; fin_cases r <;> rfl)))
    $$ [HO Ht Hl Hr Hre]
  · isplitr; · iapply (ctx_inv_own m K c _ own_credit); iexact Hc
    isplitl [HO]; · iexact HO
    isplitl [Ht]; · iexact Ht
    isplitl [Hl Hr]
    · rw [payload_tc m _ _ _ kind_credit]
      dsimp only [payK]
      unfold dstC
      rw [rt_rt_eq 1 7 c rfl]
      iapply (commAt_any m c h _ (Fin.ext (by show h.val % 2 = r.val % 2; rw [hh])))
      iapply (commAt_join m c h)
      isplitl [Hl]; · iexact Hl
      iexact Hr
    · iexact Hre
  iintro HO
  iapply Hk
  iexists W; iexact HO

/-- The right neighbour's slot comes back. -/
theorem st_take (r : Fin 5) (sem : Sem sig) (hs : sem = creditS) (n : ℕ) (hn : ∀ l ∈ levs.drop n, levK .credit r.val < l)
    {α : Type} {Q : α → sProp 𝕄} {kont : PUnit → Prog (TpuEff nD τ sig (Elt F) Λ₀ (c : Thread nD τ).2) α} :
    iprop(ctx m K c ∗ owe c n ∗ pCr c r.val ∗ wCr c r)
      ⊢ iprop(((owe c n ∗ pCr c (r.val + 1) ∗ dstC c ⟨r.val % 2, Nat.mod_lt _ (by decide)⟩) -∗ wpc c (kont ⟨⟩) Q)
        -∗ wpc c (.op (.semWait sem ((1 : ℕ) : ℤ)) kont) Q) := by
  subst hs
  unfold pCr wCr
  iintro ⟨#Hc, HO, ⟨Hat, -⟩, Hcr⟩ Hk
  iapply (wait1 m K c (.reg creditS) .credit kind_credit r.val 1 r.val n (if_pos r.isLt) rfl
    (wpE_semWait_eq 𝒱₀ (c : Thread nD τ) none Set.univ) r.isLt hn own_credit) $$ [Hcr HO Hat]
  · isplitr; · iexact Hc
    isplitl [Hcr]; · iexact Hcr
    isplitl [HO]; · iexact HO
    iexact Hat
  dsimp only [payK]
  iintro ⟨HO, Hat, Hr, Hp⟩
  iapply Hk
  isplitl [HO]; · iexact HO
  isplitl [Hat Hr]
  · isplitl [Hat]; · iexact Hat
    iexact Hr
  iexact Hp

theorem pCr_open (r : ℕ) (h : Fin 7) (hh : h.val = r + 1) (h5 : r < 5) : pCr c r ⊢ iprop(pCr c r ∗ crOpen (F := F) c h) := by
  unfold pCr crOpen
  rw [if_pos (by omega), hh, Nat.add_sub_cancel]
  iintro ⟨Ha, #Hr⟩
  isplitl [Ha]
  · isplitl [Ha]; · iexact Ha
    iexact Hr
  iexact Hr
theorem crOpen_last : (⊢ crOpen (F := F) c 6) := by
  unfold crOpen; rw [if_neg (by decide)]; iempintro

/-! ## The result's blocks -/

theorem outV_emb (n : Fin 16) (x : S512x4096.Idx) :
    blkOf c (((outV c n).view.emb x) 1).val = n ∧ cellIn ((outV c n).view.emb x) = x := by
  have e1 : ((((outV c n).view.emb x) 1).val) = 8192 * ((c.val + (15 - n.val) / 2 + 1) % 8) + 4096 * (n.val % 2) + 1 * (x 1).val := rfl
  have e0 : ((((outV c n).view.emb x) 0).val) = 0 + 1 * (x 0).val := rfl
  have hx : (x 1).val < 4096 := (x 1).isLt
  have hc : c.val < 8 := c.isLt
  have hn := n.isLt
  refine ⟨Fin.ext ?_, ?_⟩
  · show 2 * ((c.val + 8 - _ / 8192) % 8) + (_ / 4096) % 2 = n.val
    rw [e1]
    have h1 : (8192 * ((c.val + (15 - n.val) / 2 + 1) % 8) + 4096 * (n.val % 2) + 1 * (x 1).val) / 8192 = (c.val + (15 - n.val) / 2 + 1) % 8 := by omega
    have h2 : (8192 * ((c.val + (15 - n.val) / 2 + 1) % 8) + 4096 * (n.val % 2) + 1 * (x 1).val) / 4096 % 2 = n.val % 2 := by omega
    rw [h1, h2]
    omega
  · funext a
    match a with
    | ⟨0, _⟩ =>
      apply Fin.ext
      show (((outV c n).view.emb x) 0).val = (x 0).val
      rw [e0]; omega
    | ⟨1, _⟩ =>
      apply Fin.ext
      show (((outV c n).view.emb x) 1).val % 4096 = (x 1).val
      rw [e1]; omega

theorem pts_write_read {sp : Space} {s : Shape} {e : EltTy} (M : Memref sig .tc sp s e) (c : Dev nD) (q : PosShare TreeShare)
    (f G : Buf (Elt F) (M.view.loc (c : Thread nD τ))) (X : s.Idx → Elt F e) (h : X = M.view.read (Elt F) G) :
    (M.view.loc (c : Thread nD τ) ↦[M.view.set]{q} M.view.write (Elt F) f X Finset.univ : sProp 𝕄)
      = (M.view.loc (c : Thread nD τ) ↦[M.view.set]{q} G) := by
  refine pointsTo_congr fun i hi => ?_
  obtain ⟨x, -, rfl⟩ := Finset.mem_map.mp hi
  rw [View.write_emb_of_mem _ _ (Finset.mem_univ x), h, View.read_apply, cast_cast, cast_eq]

theorem outF_at (n : Fin 16) (x : S512x4096.Idx) (i : S512x65536.Idx) (h1 : blkOf c (i 1).val = n) (h2 : cellIn i = x) :
    blockV m c n x = outF m c i := by
  subst h1 h2; rfl

theorem read_at {sp : Space} {s : Shape} {e : EltTy} (M : Memref sig .tc sp s e)
    (G : M.view.ty.Contents (Elt F)) (b : Elt F e) (x : s.Idx) (y) (hy : y = M.view.emb x) (h : HEq b (G y)) : b = M.view.read (Elt F) G x := by
  subst hy
  rw [View.read_apply]
  exact eq_of_heq (h.trans (cast_heq _ _).symm)

theorem outF_read (n : Fin 16) : blockV m c n = (outV c n).view.read (Elt F) (outF m c) := by
  funext x
  have h := outV_emb c n x
  have k := outF_at m c n x ((outV c n).view.emb x) h.1 h.2
  refine read_at (outV c n) (outF m c) (blockV m c n x) x _ rfl ?_
  exact heq_of_eq k

theorem out_canon (n : Fin 16) (fd : Buf (Elt F) ((outV c n).view.loc (c : Thread nD τ))) :
    outPts c n ((outV c n).view.write (Elt F) fd (blockV m c n) Finset.univ) = outDone m c n :=
  pts_write_read (outV c n) c fullShare fd (outF m c) (blockV m c n) (outF_read m c n)

theorem stage_any (sl : Fin 2) (f : Buf (Elt F) ((stageV sl).view.loc (c : Thread nD τ))) : stagePts c sl f ⊢ stageAny c sl := by
  unfold stageAny
  iintro H; iexists f; iexact H

/-- A block is sent to the result. -/
theorem st_out (n : Fin 16) (S : Memref sig .tc .vmem S512x4096 .f32) (hS : S = stageV (gSlot n)) (D : Memref sig .tc .hbm S512x4096 .f32) (hD : D = outV c n)
    (sem : DmaSem sig) (hs : sem = osemS (gSlot n)) (r : ℕ) (hr : r = n.val / 2) (sl : Fin 2) (hsl : sl = gSlot n)
    {hsrc : S.view.WordExact} {hdst : D.view.WordExact} {hsem : DmaTarget.Typed (nD := nD) .vmem (.dma sem) (.here (p := (c : Thread nD τ).2) D)}
    {α : Type} {Q : α → sProp 𝕄} {kont : PUnit → Prog (TpuEff nD τ sig (Elt F) Λ₀ (c : Thread nD τ).2) α} :
    iprop(ctx m K c ∗ stageF m c n ∗ tO c n ∗ pO c sl r)
      ⊢ iprop(((cO c n ∗ pO c sl r) -∗ wpc c (kont ⟨⟩) Q)
        -∗ wpc c (.op (.enqueueDma S (.here D) (.dma sem) hsrc hdst hsem) kont) Q) := by
  subst hS hD hs hr hsl
  unfold stageF tO outAny pO
  iintro ⟨#Hc, Hg, ⟨Ht, ⟨%fd, Hd⟩⟩, Hat, #Hr⟩ Hk
  have hn := n.isLt
  iapply (Rounds.wp_copy_pointsTo 𝒱₀ ER (Rd m) (c : Thread nD τ) none (src := stageV (gSlot n)) (dst := outV c n) (sem := .dma (osemS (gSlot n)))
      (κ := K (osemC c (gSlot n))) (r := n.val / 2) (d := 0)
      (by rw [duties_tc m c _ _ (kind_osem _)]; dsimp only [dutyK]; rw [if_pos (by omega)]; decide)
      0 No (No_eq c n) (amount_tc m c _ _ (kind_osem _) _ 0)
      (by
        rw [payload_tc m c _ _ (kind_osem _)]
        dsimp only [payK]
        unfold osemPay
        have e : 2 * (n.val / 2) + (gSlot n).val = n.val := by show 2 * (n.val / 2) + n.val % 2 = n.val; omega
        rw [dif_pos (by rw [e]; exact hn)]
        simp only [e]
        exact BI.sep_mono (Entails.of_eq (out_canon m c n fd)) (stage_any c _ _))) $$ [Hg Ht Hd]
  · isplitr; · iapply (ctx_inv_own m K c c (own_osem _)); iexact Hc
    isplitl [Hg]; · iexact Hg
    isplitl [Hd]; · iexact Hd
    isplitl [Ht]; · iexact Ht
    iexact Hr
  iintro Hcr
  iapply Hk
  isplitl [Hcr]; · unfold cO; iexact Hcr
  isplitl [Hat]; · iexact Hat
  iexact Hr

/-- A block has reached the result, and its staging slot is free. -/
theorem st_owait (n : Fin 16) {sp' : Space} {s' : Shape} {e' : EltTy}
    (S : Memref sig .tc sp' s' e') {spD : Space} (D : Memref sig .tc spD S512x4096 .f32) (hN : D.view.dmaCredit = No) (sem : DmaSem sig) (hs : sem = osemS (gSlot n))
    (q : ℕ) (r r' : ℕ) (hr : r = n.val / 2) (hr' : r' = n.val / 2 + 1) (sl : Fin 2) (hsl : sl = gSlot n) (hq : ∀ l ∈ levs.drop q, 0 < l)
    {hsrc : S.view.WordExact} {hdst : D.view.WordExact}
    {α : Type} {Q : α → sProp 𝕄} {kont : PUnit → Prog (TpuEff nD τ sig (Elt F) Λ₀ (c : Thread nD τ).2) α} :
    iprop(ctx m K c ∗ owe c q ∗ pO c sl r ∗ cO c n)
      ⊢ iprop(((owe c q ∗ pO c sl r' ∗ outDone m c n ∗ stageAny c sl) -∗ wpc c (kont ⟨⟩) Q)
        -∗ wpc c (.op (.waitDma2 sem S D hsrc hdst) kont) Q) := by
  subst hs hsl hr hr'
  unfold pO cO
  iintro ⟨#Hc, HO, ⟨Hat, -⟩, Hcr⟩ Hk
  have hn := n.isLt
  iapply (wait1 m K c (.dma (osemS (gSlot n))) (.osem (gSlot n)) (kind_osem _) (n.val / 2) No 0 q (if_pos (by omega)) rfl
    (fun K' => (wpE_waitDma2_eq 𝒱₀ (c : Thread nD τ) none Set.univ (src := S) (dst := D) K').trans (by rw [hN])) (by decide) hq (own_osem _)) $$ [Hcr HO Hat]
  · isplitr; · iexact Hc
    isplitl [Hcr]; · iexact Hcr
    isplitl [HO]; · iexact HO
    iexact Hat
  dsimp only [payK]
  unfold osemPay
  have e : 2 * (n.val / 2) + (gSlot n).val = n.val := by show 2 * (n.val / 2) + n.val % 2 = n.val; omega
  rw [dif_pos (by rw [e]; exact hn)]
  simp only [e]
  iintro ⟨HO, Hat, Hr, Hp, Hg⟩
  iapply Hk
  isplitl [HO]; · iexact HO
  isplitl [Hat Hr]
  · isplitl [Hat]; · iexact Hat
    iexact Hr
  isplitl [Hp]; · iexact Hp
  iexact Hg

/-! ## Loads and stores -/

theorem commH_sub (sl hf : Fin 2) : (commB.access (commH sl hf)).set ⊆ (commV sl).view.set := by
  have e1 : (commB.access (commH sl hf)).set = (commH sl hf).set := View.set_slice_whole _ _
  have e2 : (commV sl).view.set = (Rect.unit (s := S2x512x8192) ![sl.val, 0, 0] S1x512x8192.size (inbC sl)).set :=
    (View.set_reshape _ _).trans (View.set_slice_whole _ _)
  rw [e1, e2]
  intro i hi
  rw [Rect.mem_set_unit] at hi ⊢
  intro a
  have := hi a
  match a with
  | ⟨0, _⟩ => exact this
  | ⟨1, _⟩ => exact this
  | ⟨2, _⟩ => exact ⟨Nat.zero_le _, by have h2 : (i 2).val < 8192 := (i 2).isLt; show (i 2).val < 0 + 8192; omega⟩
theorem statR_sub (j : Fin 7) : (statB.access (statR j)).set ⊆ (statV j).view.set := by
  have e1 : (statB.access (statR j)).set = (statR j).set := View.set_slice_whole _ _
  have e2 : (statV j).view.set = (statR j).set := (View.set_reshape _ _).trans (View.set_slice_whole _ _)
  rw [e1, e2]
theorem stageR_sub (sl : Fin 2) : (stageB.access (stageR sl)).set ⊆ (stageV sl).view.set := by
  have e1 : (stageB.access (stageR sl)).set = (stageR sl).set := View.set_slice_whole _ _
  have e2 : (stageV sl).view.set = (stageR sl).set := (View.set_reshape _ _).trans (View.set_slice_whole _ _)
  rw [e1, e2]

/-- A half of what ring step `h` landed is read. -/
theorem st_ldC (h : Fin 7) (hf : Fin 2) (r : LoadRect S2x512x8192) (hr : r = (commH (slotOf h) hf).toLoadRect) {hl : commB.view.LoadsAt r}
    {α : Type} {Q : α → sProp 𝕄} {kont : (r.shape.Idx → Elt F .bf16) → Prog (TpuEff nD τ sig (Elt F) Λ₀ (c : Thread nD τ).2) α} :
    commAt m c h fullShare.left
      ⊢ iprop((commAt m c h fullShare.left -∗ wpc c (kont (hr ▸ ldC m c h hf)) Q) -∗ wpc c (.op (.load commB r hl) kont) Q) := by
  subst hr
  unfold commAt
  iintro H Hk
  iapply (wp_load_rect 𝒱₀ (c : Thread nD τ) none Set.univ (commH_sub (slotOf h) hf)) $$ H
  iintro H
  iapply Hk; iexact H

/-- The own statistics are read. -/
theorem st_ldOwn (q : PosShare TreeShare) {hl : sM.view.LoadsAt ownR.toLoadRect}
    {α : Type} {Q : α → sProp 𝕄} {kont : (ownR.toLoadRect.shape.Idx → Elt F .f32) → Prog (TpuEff nD τ sig (Elt F) Λ₀ (c : Thread nD τ).2) α} :
    sPts m c q
      ⊢ iprop((sPts m c q -∗ wpc c (kont (ldOwn m c)) Q) -∗ wpc c (.op (.load sM ownR.toLoadRect hl) kont) Q) := by
  iintro H Hk
  iapply (wp_load 𝒱₀ (c : Thread nD τ) none Set.univ (View.setOn_subset_set _ _)) $$ H
  iintro H
  iapply Hk; iexact H

/-- A half of the own exponentials is read. -/
theorem st_ldE (hf : Fin 2) (q : PosShare TreeShare) (r : LoadRect S512x8192) (hr : r = (eR hf).toLoadRect) {hl : eM.view.LoadsAt r}
    {α : Type} {Q : α → sProp 𝕄} {kont : (r.shape.Idx → Elt F .bf16) → Prog (TpuEff nD τ sig (Elt F) Λ₀ (c : Thread nD τ).2) α} :
    ePts m c q
      ⊢ iprop((ePts m c q -∗ wpc c (kont (hr ▸ ldE m c hf)) Q) -∗ wpc c (.op (.load eM r hl) kont) Q) := by
  subst hr
  iintro H Hk
  iapply (wp_load 𝒱₀ (c : Thread nD τ) none Set.univ (View.setOn_subset_set _ _)) $$ H
  iintro H
  iapply Hk; iexact H

/-- Statistics slot `j` is read. -/
theorem st_ldStat (j : Fin 7) (r : LoadRect S7x512x128) (hr : r = (statR j).toLoadRect) {hl : statB.view.LoadsAt r}
    {α : Type} {Q : α → sProp 𝕄} {kont : (r.shape.Idx → Elt F .f32) → Prog (TpuEff nD τ sig (Elt F) Λ₀ (c : Thread nD τ).2) α} :
    statAt m c j
      ⊢ iprop((statAt m c j -∗ wpc c (kont (hr ▸ ldStat m c j)) Q) -∗ wpc c (.op (.load statB r hl) kont) Q) := by
  subst hr
  unfold statAt
  iintro H Hk
  iapply (wp_load_rect 𝒱₀ (c : Thread nD τ) none Set.univ (statR_sub j)) $$ H
  iintro H
  iapply Hk; iexact H

/-- A staging slot is read, and the value is not used. -/
theorem st_ldStage (sl : Fin 2) (r : LoadRect S2x512x4096) (hr : r = (stageR sl).toLoadRect) {hl : stageB.view.LoadsAt r}
    {α : Type} {Q : α → sProp 𝕄} {p : Prog (TpuEff nD τ sig (Elt F) Λ₀ (c : Thread nD τ).2) α} :
    stageAny c sl
      ⊢ iprop((stageAny c sl -∗ wpc c p Q) -∗ wpc c (.op (.load stageB r hl) (fun _ => p)) Q) := by
  subst hr
  unfold stageAny
  iintro ⟨%f, H⟩ Hk
  iapply (wp_load_rect 𝒱₀ (c : Thread nD τ) none Set.univ (stageR_sub sl)) $$ H
  iintro H
  iapply Hk; iexists f; iexact H

/-- Block `n` is put in its staging slot. -/
theorem st_stage (n : Fin 16) (sl : Fin 2) (hsl : sl = gSlot n) (r : Rect S2x512x4096) (hr : r = stageR sl) (w : r.shape.Idx → Elt F .f32)
    (hw : HEq w (payW m c n)) {hx : (stageB.access r).Stores Finset.univ} {hm : (Finset.univ : Finset r.shape.Idx) = Finset.univ ∨ ∀ a, r.stride a = 1}
    {α : Type} {Q : α → sProp 𝕄} {kont : PUnit → Prog (TpuEff nD τ sig (Elt F) Λ₀ (c : Thread nD τ).2) α} :
    stageAny c sl
      ⊢ iprop((stageF m c n -∗ wpc c (kont ⟨⟩) Q) -∗ wpc c (.op (.store stageB r w Finset.univ hx hm) kont) Q) := by
  subst hsl hr
  obtain rfl := eq_of_heq hw
  unfold stageAny stageF
  iintro ⟨%f, H⟩ Hk
  iapply (wp_store 𝒱₀ (c : Thread nD τ) none Set.univ (stageR_sub (gSlot n))) $$ H
  iintro H
  iapply Hk
  have e2 : (stageV (gSlot n)).view.set = (stageB.access (stageR (gSlot n))).set := (View.set_reshape _ _)
  have e : stagePts c (gSlot n) ((stageB.access (stageR (gSlot n))).write (Elt F) f (payW m c n) Finset.univ) = stagePts c (gSlot n) (stageC m c n) := by
    refine pointsTo_congr fun i hi => View.write_congr (fun _ _ _ => rfl) (fun hn => absurd ?_ hn)
    rw [View.setOn_univ, ← e2]; exact hi
  ihave H2 := (Entails.of_eq e) $$ H
  iexact H2

end Ops

end Cert.KernelIdeal.Ring

end
-- ==== Proof.IdealPartsA.lean ====
/-
  The kernel's body, part by part: up to the sums.
-/
module

public import proofs.«01_k».proof.Proof.IdealSend
public import proofs.«01_k».proof.Proof.IdealOut

@[expose] public section

noncomputable section

namespace Cert.KernelIdeal.Ring

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig ℕ (Elt F) ℕ UU ℕ

variable (m : (ℓ : Loc nD τ sig) → Buf (Elt F) ℓ)

section Parts

variable (K : GSem nD τ sig → ℕ) (c : Dev nD)

/-! ## The spellings of the program -/

theorem inbS7 (j : Fin 7) : ∀ a, (![j.val] : Fin 1 → Nat) a + S1.size a ≤ S7.size a := by revert j; decide
theorem inbS2 (j : Fin 2) : ∀ a, (![j.val] : Fin 1 → Nat) a + S1.size a ≤ S2.size a := by revert j; decide
theorem dsend_sem : ∀ h : Fin 7, ((cc0_scratch3.slice (Rect.unit (s := S7) ![h.val] S1.size (inbS7 h))).squeeze S_ squeezes_S1_S_).sem = dsendS h := by
  decide +kernel
theorem drecv_sem : ∀ h : Fin 7, ((cc0_scratch4.slice (Rect.unit (s := S7) ![h.val] S1.size (inbS7 h))).squeeze S_ squeezes_S1_S_).sem = drecvS h := by
  decide +kernel
theorem ssend_sem : ∀ h : Fin 7, ((cc0_scratch5.slice (Rect.unit (s := S7) ![h.val] S1.size (inbS7 h))).squeeze S_ squeezes_S1_S_).sem = ssendS h := by
  decide +kernel
theorem srecv_sem : ∀ h : Fin 7, ((cc0_scratch6.slice (Rect.unit (s := S7) ![h.val] S1.size (inbS7 h))).squeeze S_ squeezes_S1_S_).sem = srecvS h := by
  decide +kernel
theorem osem_sem : ∀ h : Fin 2, ((cc0_scratch7.slice (Rect.unit (s := S2) ![h.val] S1.size (inbS2 h))).squeeze S_ squeezes_S1_S_).sem = osemS h := by
  decide +kernel
theorem credit_sem : cc0_scratch8.sem = creditS := by decide +kernel
theorem bar_sem : (SemArray.scalar (sig.barrier 0 rfl) : Sems sig S_).sem = barS := rfl

/-- A slice of the result that starts where block `n` does. -/
theorem outV_of (n : Fin 16) {off : Fin 2 → Nat} (h : off = oOff c n.val) {inb : ∀ a, off a + S512x4096.size a ≤ S512x65536.size a} :
    oM.slice (Rect.unit (s := S512x65536) off S512x4096.size inb) (fun _ => rfl) = outV c n := by
  subst h; rfl
theorem out_off (a : Fin 7) (b : Fin 2) (n : ℕ) (h : (15 - n) / 2 = a.val) (h' : n % 2 = b.val) :
    k0_off2 c (BitVec.ofNat 32 (1 + a.val)) (BitVec.ofNat 32 (4096 * b.val)) = oOff c n := by
  rw [k0_off2_eq c a b]; unfold oOff; rw [h, h']
theorem out_off1 (b : Fin 2) : k0_off1 c (BitVec.ofNat 32 (4096 * b.val)) = oOff c b.val := by
  rw [k0_off1_eq c b]
  have hb := b.isLt
  have hc : c.val < 8 := c.isLt
  unfold oOff
  rw [show (15 - b.val) / 2 = 7 by omega, show (c.val + 7 + 1) % 8 = c.val by omega, show b.val % 2 = b.val by omega]

theorem one_toInt : (1#32).toInt = ((1 : ℕ) : ℤ) := by decide
theorem seven_toInt : (7#32).toInt = ((7 : ℕ) : ℤ) := by decide
theorem map_op {E : Type → Type} {α β γ : Type} (f : α → β) (e : E γ) (k : γ → Prog E α) : f <$> Prog.op e k = Prog.op e (fun r => f <$> k r) := rfl
theorem map_ret {E : Type → Type} {α β : Type} (f : α → β) (a : α) : f <$> (Prog.ret a : Prog E α) = Prog.ret (f a) := rfl

theorem dev_of (k : ℕ) {d : ℕ} (h : d < nD) (e : d = (c.val + k) % 8) : (⟨d, h⟩ : Dev nD) = rt k c := Fin.ext e

theorem wpc_ret {α : Type} {Q : α → sProp 𝕄} {a : α} : Q a ⊢ wpc (F := F) c (.ret a) Q := by
  unfold wpc; rw [wp_ret]
  iintro H; imodintro; iexact H

theorem wpc_ret' {α : Type} {Q : α → sProp 𝕄} {a b : α} (h : a = b) : Q b ⊢ wpc (F := F) c (.ret a) Q := h ▸ wpc_ret c

theorem dsend_own : dsendPay m c 0 = ePts m c fullShare.right := rfl
theorem dsend_ring (h g : Fin 7) (hg : g.val + 1 = h.val) : dsendPay m c h = commAt m c g fullShare.right := by
  unfold dsendPay
  rw [dif_neg (by omega)]
  congr 1
  exact Fin.ext (by show h.val - 1 = g.val; omega)
theorem pay_own (hf : Fin 2) (n : Fin 16) (hn : n.val = hf.val) {w : FVec F S1x512x4096 .f32} (hw : w = k0_pay6 (invV m c) (ldE m c hf)) :
    HEq w (payW m c n) := by
  subst hw
  have hb := hf.isLt
  unfold payW
  rw [dif_pos (by omega)]
  exact heq_of_eq (congrArg _ (congrArg _ (Fin.ext hn.symm)))
theorem pay_ring (h : Fin 7) (hf : Fin 2) (n : Fin 16) (hn : n.val = 2 + 2 * h.val + hf.val) {w : FVec F S1x512x4096 .f32}
    (hw : w = k0_pay9 (invV m c) (ldC m c h hf)) : HEq w (payW m c n) := by
  subst hw
  have hb := hf.isLt
  unfold payW
  rw [dif_neg (by omega)]
  have e1 : h = ⟨(n.val - 2) / 2, by omega⟩ := Fin.ext (by show h.val = (n.val - 2) / 2; omega)
  have e2 : hf = ⟨n.val % 2, Nat.mod_lt _ (by decide)⟩ := Fin.ext (by show hf.val = n.val % 2; omega)
  exact heq_of_eq (by rw [← e1, ← e2])

/-- A block has reached the result, and the block two on is put in the staging slot. -/
theorem st_turn (n n' : Fin 16) (hnn : n'.val = n.val + 2) {sp' : Space} {s' : Shape} {e' : EltTy}
    (S : Memref sig .tc sp' s' e') {spD : Space} (D : Memref sig .tc spD S512x4096 .f32) (hN : D.view.dmaCredit = No) (sem : DmaSem sig) (hs : sem = osemS (gSlot n))
    (q : ℕ) (r r' : ℕ) (hr : r = n.val / 2) (hr' : r' = n.val / 2 + 1) (sl : Fin 2) (hsl : sl = gSlot n) (hq : ∀ l ∈ levs.drop q, 0 < l)
    (ra : LoadRect S2x512x4096) (hra : ra = (stageR sl).toLoadRect) (rb : Rect S2x512x4096) (hrb : rb = stageR sl)
    (w : rb.shape.Idx → Elt F .f32) (hw : HEq w (payW m c n')) {hl : stageB.view.LoadsAt ra}
    {hx : (stageB.access rb).Stores Finset.univ} {hm : (Finset.univ : Finset rb.shape.Idx) = Finset.univ ∨ ∀ a, rb.stride a = 1}
    {hsrc : S.view.WordExact} {hdst : D.view.WordExact}
    {α : Type} {Q : α → sProp 𝕄} {kont : PUnit → Prog (TpuEff nD τ sig (Elt F) Λ₀ (c : Thread nD τ).2) α} :
    iprop(ctx m K c ∗ owe c q ∗ pO c sl r ∗ cO c n)
      ⊢ iprop(((owe c q ∗ pO c sl r' ∗ outDone m c n ∗ stageF m c n') -∗ wpc c (kont ⟨⟩) Q)
        -∗ wpc c (.op (.waitDma2 sem S D hsrc hdst) fun _ => .op (.load stageB ra hl) fun _ => .op (.store stageB rb w Finset.univ hx hm) kont) Q) := by
  iintro ⟨#Hc, HO, HP, HC⟩ Hk
  iapply (st_owait m K c n S D hN sem hs q r r' hr hr' sl hsl hq) $$ [HO HP HC]
  · iframe; iexact Hc
  iintro ⟨HO, HP, HD, HS⟩
  iapply (st_ldStage c sl ra hra) $$ HS
  iintro HS
  iapply (st_stage m c n' sl (hsl.trans (Fin.ext (by show n.val % 2 = n'.val % 2; omega))) rb hrb w hw) $$ HS
  iintro HS
  iapply Hk
  iframe

/-- A ring slot goes back to the left neighbour, and the right neighbour's comes back. -/
theorem st_swap (r : Fin 5) (h h' : Fin 7) (hh : h.val = r.val) (hh' : h'.val = r.val + 1) (dev : Dev nD) (hd : dev = rt 7 c)
    (sem : Sem sig) (hs : sem = creditS) (n : ℕ) (hn : n = 16 + 2 * r.val) (hl : ∀ l ∈ levs.drop (n + 1), levK .credit r.val < l)
    (sl : Fin 2) (hsl : sl.val = r.val % 2) (k k' : ℕ) (hk : k = r.val) (hk' : k' = r.val + 1)
    {α : Type} {Q : α → sProp 𝕄} {kont : PUnit → Prog (TpuEff nD τ sig (Elt F) Λ₀ (c : Thread nD τ).2) α} :
    iprop(ctx m K c ∗ owe c n ∗ tCr c r ∗ commAt m c h fullShare.left ∗ commAt m c h fullShare.right ∗ rCredit c h' ∗ pCr c k ∗ wCr c r)
      ⊢ iprop(((owe c (n + 1) ∗ pCr c k' ∗ dstC c sl) -∗ wpc c (kont ⟨⟩) Q)
        -∗ wpc c (.op (.semSignal (dev : Thread nD τ) sem ((1 : ℕ) : ℤ)) fun _ => .op (.semWait sem ((1 : ℕ) : ℤ)) kont) Q) := by
  obtain rfl : sl = ⟨r.val % 2, Nat.mod_lt _ (by decide)⟩ := Fin.ext hsl
  subst hk hk'
  iintro ⟨#Hc, HO, HT, HL, HR, HC, HP, HW⟩ Hk
  iapply (st_credit m K c r h h' hh hh' dev hd sem hs n hn) $$ [HO HT HL HR HC]
  · iframe; iexact Hc
  iintro HO
  iapply (st_take m K c r sem hs (n + 1) hl) $$ [HO HP HW]
  · iframe; iexact Hc
  iexact Hk

/-- Ring step `h`, which the credit of the step before allows. -/
theorem st_pass (h g : Fin 7) (hg : g.val + 1 = h.val) (dev : Dev nD) (hd : dev = rt 1 c)
    (S D : Memref sig .tc .vmem S512x8192 .bf16) (hS' : S = commV (slotOf g)) (hD : D = commV (slotOf h))
    (sS sR : DmaSem sig) (hS : sS = dsendS h) (hR : sR = drecvS h) (n : ℕ) (hn : n = 13 + 2 * h.val)
    (sl : Fin 2) (hsl : sl = slotOf h) (k : ℕ) (hk : k = g.val)
    {hsc : D.view.ref.isScScratch = false} {hsrc : S.view.WordExact} {hdst : D.view.WordExact}
    {hsem : DmaTarget.Typed .vmem (.dma sR) (.remote (Dev.tc dev) D (.dma sS) hsc)}
    {α : Type} {Q : α → sProp 𝕄} {kont : PUnit → Prog (TpuEff nD τ sig (Elt F) Λ₀ (c : Thread nD τ).2) α} :
    iprop(ctx m K c ∗ rOpen c ∗ owe c n ∗ tD c h ∗ commAt m c g fullShare.right ∗ dstC c sl ∗ pCr c k)
      ⊢ iprop(((owe c (n + 1) ∗ cDs c h ∗ pCr c k) -∗ wpc c (kont ⟨⟩) Q)
        -∗ wpc c (.op (.enqueueDma S (.remote (Dev.tc dev) D (.dma sS) hsc) (.dma sR) hsrc hdst hsem) kont) Q) := by
  subst hsl hk
  have e : pCr (F := F) c g.val ⊢ iprop(pCr c g.val ∗ crOpen c h) := by
    by_cases h5 : g.val < 5
    · exact pCr_open c g.val h hg.symm h5
    · obtain rfl : h = 6 := Fin.ext (by show h.val = 6; omega)
      iintro H
      isplitl [H]; · iexact H
      iapply (crOpen_last c)
  iintro ⟨#Hc, #Hr, HO, HT, HC, HD, HP⟩ Hk
  ihave HX := e $$ HP
  icases HX with ⟨HP, HX⟩
  iapply (st_send m K c h g hg dev hd S D hS' hD sS sR hS hR n hn) $$ [HO HT HC HD HX]
  · iframe
    isplitr; · iexact Hc
    iexact Hr
  iintro ⟨HO, HC⟩
  iapply Hk
  iframe

theorem No_of {off : Fin 2 → Nat} {inb : ∀ a, off a + S512x4096.size a ≤ S512x65536.size a} :
    (oM.slice (Rect.unit (s := S512x65536) off S512x4096.size inb) (fun _ => rfl)).view.dmaCredit = No := rfl

variable (h0 : eM.IsWhole) (h1 : sM.IsWhole) (h2 : oM.IsWhole) (h3 : commB.IsWhole) (h4 : statB.IsWhole) (h5 : stageB.IsWhole)

/-- The first four barrier signals. -/
theorem part1 {Q : _ → sProp 𝕄} :
    iprop(ctx m K c ∗ owe c 0 ∗ (tBar c 0 ∗ tBar c 1 ∗ tBar c 2 ∗ tBar c 3) ∗ statAny c 6 ∗ statAny c 5 ∗ statAny c 4 ∗ statAny c 3)
      ⊢ iprop((∀ v2 v5 v7 v25 v, (owe c 4) -∗ Q ⟨c, v2, v5, v7, SemArray.scalar (sig.barrier 0 rfl), v25, v⟩)
        -∗ wpc c (k0_part1 (F := F) eM h0 sM h1 oM h2 commB h3 statB h4 stageB h5 cc0_scratch3 cc0_scratch4 cc0_scratch5 cc0_scratch6 cc0_scratch7 cc0_scratch8 ) Q) := by
  rw [k0_part1_eq_skeleton]
  simp only [k0_part1_skel, semSignalWord, one_toInt, wp_deviceId, Prog.lift, Prog.bind_op, Prog.bind_ret, bind_pure_comp, map_op, map_ret]
  iintro ⟨#Hc, HO, ⟨T0, T1, T2, T3⟩, S6, S5, S4, S3⟩ Hk
  iapplyF (st_sig m K c 0 (by decide) _ (dev_of c 1 (k0_dev1_lt c) (k0_dev1_eq c)) _ bar_sem)
  iintro HO
  iapplyF (st_sig m K c 1 (by decide) _ (dev_of c 2 (k0_dev2_lt c) (k0_dev2_eq c)) _ bar_sem)
  iintro HO
  iapplyF (st_sig m K c 2 (by decide) _ (dev_of c 3 (k0_dev3_lt c) (k0_dev3_eq c)) _ bar_sem)
  iintro HO
  iapplyF (st_sig m K c 3 (by decide) _ (dev_of c 4 (k0_dev4_lt c) (k0_dev4_eq c)) _ bar_sem)
  iintro HO
  iapply (wpc_ret c)
  iapply Hk
  iexact HO

/-- The other three, the wait on the own barrier, and ring step 0. -/
theorem part2 (v2 v7 v25 v : BitVec 32) {Q : _ → sProp 𝕄} :
    iprop(ctx m K c ∗ owe c 4 ∗ (tBar c 4 ∗ tBar c 5 ∗ tBar c 6) ∗ (statAny c 2 ∗ statAny c 1 ∗ statAny c 0) ∗ commAny c 0 ∗ commAny c 1 ∗ wBar c ∗ tD c 0 ∗ ePts m c fullShare.right)
      ⊢ iprop((∀ v, (owe c 8 ∗ semVal (barC c) 0 ∗ cDs c 0 ∗ (dstS c 0 ∗ dstS c 1 ∗ dstS c 2 ∗ dstS c 3 ∗ dstS c 4 ∗ dstS c 5 ∗ dstS c 6) ∗ dstC c 1 ∗ rOpen c) -∗ Q v)
        -∗ wpc c (k0_part2 (F := F) eM h0 sM h1 oM h2 commB h3 statB h4 stageB h5 cc0_scratch3 cc0_scratch4 cc0_scratch5 cc0_scratch6 cc0_scratch7 cc0_scratch8 c v2 v7 (SemArray.scalar (sig.barrier 0 rfl)) v25 v) Q) := by
  rw [k0_part2_eq_skeleton]
  simp only [k0_part2_skel, semSignalWord, semWaitWord, one_toInt, seven_toInt, Prog.lift, Prog.bind_op, Prog.bind_ret, bind_pure_comp, map_op, map_ret]
  iintro ⟨#Hc, HO, ⟨T4, T5, T6⟩, ⟨S2, S1, S0⟩, B0, B1, HW, HT, HE⟩ Hk
  iapplyF (st_sig m K c 4 (by decide) _ (dev_of c 5 (k0_dev5_lt c) (k0_dev5_eq c)) _ bar_sem)
  iintro HO
  iapplyF (st_sig m K c 5 (by decide) _ (dev_of c 6 (k0_dev6_lt c) (k0_dev6_eq c)) _ bar_sem)
  iintro HO
  iapplyF (st_sig6 m K c _ (dev_of c 7 (k0_dev7_lt c) (k0_dev7_eq c)) _ bar_sem)
  iintro HO
  iapplyF (st_bar m K c _ bar_sem)
  unfold barGot
  iintro ⟨HO, V, ⟨D0, D1, D2, D3, D4, D5, D6⟩, C0, C1, #R⟩
  iapplyF (st_send0 m K c _ (dev_of c 1 (k0_dev8_lt c) (k0_dev8_eq c)) _ rfl _ _ (dsend_sem 0) (drecv_sem 0))
  iintro ⟨HO, CD⟩
  iapply (wpc_ret c)
  iapply Hk
  iframe; iexact R

/-- Statistics transfers 0, 1, 2. -/
theorem part3 (v2 : BitVec 32) {Q : _ → sProp 𝕄} :
    iprop(ctx m K c ∗ owe c 8 ∗ (tSt c 0 ∗ tSt c 1 ∗ tSt c 2) ∗ sPts m c (shK 0) ∗ dstS c 0 ∗ dstS c 1 ∗ dstS c 2)
      ⊢ iprop((∀ v, (owe c 11 ∗ (cSs c 0 ∗ cSs c 1 ∗ cSs c 2) ∗ sPts m c (shK 3)) -∗ Q v)
        -∗ wpc c (k0_part3 (F := F) eM h0 sM h1 oM h2 commB h3 statB h4 stageB h5 cc0_scratch3 cc0_scratch4 cc0_scratch5 cc0_scratch6 cc0_scratch7 cc0_scratch8 c v2) Q) := by
  rw [k0_part3_eq_skeleton]
  simp only [k0_part3_skel, Prog.lift, Prog.bind_op, Prog.bind_ret, bind_pure_comp, map_op, map_ret]
  iintro ⟨#Hc, HO, ⟨T0, T1, T2⟩, Hs, D0, D1, D2⟩ Hk
  iapplyF (st_stat m K c 0 _ (dev_of c 1 (k0_dev9_lt c) (k0_dev9_eq c)) _ rfl _ _ (ssend_sem 0) (srecv_sem 0) 8 rfl)
  iintro ⟨HO, C0, Hs⟩
  iapplyF (st_stat m K c 1 _ (dev_of c 2 (k0_dev10_lt c) (k0_dev10_eq c)) _ rfl _ _ (ssend_sem 1) (srecv_sem 1) 9 rfl)
  iintro ⟨HO, C1, Hs⟩
  iapplyF (st_stat m K c 2 _ (dev_of c 3 (k0_dev11_lt c) (k0_dev11_eq c)) _ rfl _ _ (ssend_sem 2) (srecv_sem 2) 10 rfl)
  iintro ⟨HO, C2, Hs⟩
  iapply (wpc_ret c)
  iapply Hk
  iframe; iexact Hs

/-- Statistics transfers 3, 4, 5. -/
theorem part4 (v2 : BitVec 32) {Q : _ → sProp 𝕄} :
    iprop(ctx m K c ∗ owe c 11 ∗ (tSt c 3 ∗ tSt c 4 ∗ tSt c 5) ∗ sPts m c (shK 3) ∗ dstS c 3 ∗ dstS c 4 ∗ dstS c 5)
      ⊢ iprop((∀ v, (owe c 14 ∗ (cSs c 3 ∗ cSs c 4 ∗ cSs c 5) ∗ sPts m c (shK 6)) -∗ Q v)
        -∗ wpc c (k0_part4 (F := F) eM h0 sM h1 oM h2 commB h3 statB h4 stageB h5 cc0_scratch3 cc0_scratch4 cc0_scratch5 cc0_scratch6 cc0_scratch7 cc0_scratch8 c v2) Q) := by
  rw [k0_part4_eq_skeleton]
  simp only [k0_part4_skel, Prog.lift, Prog.bind_op, Prog.bind_ret, bind_pure_comp, map_op, map_ret]
  iintro ⟨#Hc, HO, ⟨T0, T1, T2⟩, Hs, D0, D1, D2⟩ Hk
  iapplyF (st_stat m K c 3 _ (dev_of c 4 (k0_dev12_lt c) (k0_dev12_eq c)) _ rfl _ _ (ssend_sem 3) (srecv_sem 3) 11 rfl)
  iintro ⟨HO, C3, Hs⟩
  iapplyF (st_stat m K c 4 _ (dev_of c 5 (k0_dev13_lt c) (k0_dev13_eq c)) _ rfl _ _ (ssend_sem 4) (srecv_sem 4) 12 rfl)
  iintro ⟨HO, C4, Hs⟩
  iapplyF (st_stat m K c 5 _ (dev_of c 6 (k0_dev14_lt c) (k0_dev14_eq c)) _ rfl _ _ (ssend_sem 5) (srecv_sem 5) 13 rfl)
  iintro ⟨HO, C5, Hs⟩
  iapply (wpc_ret c)
  iapply Hk
  iframe; iexact Hs

/-- Statistics transfer 6, and the sums of slots 0 and 1. -/
theorem part5 (v46 v56 v66 : BitVec 32) {Q : _ → sProp 𝕄} :
    iprop(ctx m K c ∗ owe c 14 ∗ tSt c 6 ∗ sPts m c (shK 6) ∗ dstS c 6 ∗ wSr c 0 ∗ wSr c 1)
      ⊢ iprop(((owe c 15 ∗ cSs c 6 ∗ sPts m c (shK 7) ∗ (semVal (srecvC c 0) 0 ∗ statAt m c 0) ∗ semVal (srecvC c 1) 0 ∗ statAt m c 1) -∗ Q (inv1 m c))
        -∗ wpc c (k0_part5 (F := F) eM h0 sM h1 oM h2 commB h3 statB h4 stageB h5 cc0_scratch3 cc0_scratch4 cc0_scratch5 cc0_scratch6 cc0_scratch7 cc0_scratch8 c v46 v56 v66) Q) := by
  rw [k0_part5_eq_skeleton]
  simp only [k0_part5_skel, Prog.lift, Prog.bind_op, Prog.bind_ret, bind_pure_comp, map_op, map_ret]
  iintro ⟨#Hc, HO, T, Hs, D, W0, W1⟩ Hk
  iapplyF (st_stat m K c 6 _ (dev_of c 7 (k0_dev15_lt c) (k0_dev15_eq c)) _ rfl _ _ (ssend_sem 6) (srecv_sem 6) 14 rfl)
  iintro ⟨HO, C6, Hs⟩
  iapplyF (st_ldOwn m c (shK 7))
  iintro Hs
  iapplyF (st_srecv m K c 0 _ _ (Ns_eq 0) _ (srecv_sem 0))
  iintro ⟨HO, V0, A0⟩
  iapplyF (st_ldStat m c 0 _ rfl)
  iintro A0
  iapplyF (st_srecv m K c 1 _ _ (Ns_eq 1) _ (srecv_sem 1))
  iintro ⟨HO, V1, A1⟩
  iapplyF (st_ldStat m c 1 _ rfl)
  iintro A1
  iapply (wpc_ret' c (b := (inv1 m c)) rfl)
  iapply Hk
  iframe

/-- The sums of slots 2, 3, 4. -/
theorem part6 (v76 v86 v96 : BitVec 32) {Q : _ → sProp 𝕄} :
    iprop(ctx m K c ∗ owe c 15 ∗ wSr c 2 ∗ wSr c 3 ∗ wSr c 4)
      ⊢ iprop(((owe c 15 ∗ (semVal (srecvC c 2) 0 ∗ statAt m c 2) ∗ (semVal (srecvC c 3) 0 ∗ statAt m c 3) ∗ semVal (srecvC c 4) 0 ∗ statAt m c 4) -∗ Q (inv2 m c))
        -∗ wpc c (k0_part6 (F := F) eM h0 sM h1 oM h2 commB h3 statB h4 stageB h5 cc0_scratch3 cc0_scratch4 cc0_scratch5 cc0_scratch6 cc0_scratch7 cc0_scratch8 v76 v86 v96 (inv1 m c)) Q) := by
  rw [k0_part6_eq_skeleton]
  simp only [k0_part6_skel, Prog.lift, Prog.bind_op, Prog.bind_ret, bind_pure_comp, map_op, map_ret]
  iintro ⟨#Hc, HO, W0, W1, W2⟩ Hk
  iapplyF (st_srecv m K c 2 _ _ (Ns_eq 2) _ (srecv_sem 2))
  iintro ⟨HO, V2, A2⟩
  iapplyF (st_ldStat m c 2 _ rfl)
  iintro A2
  iapplyF (st_srecv m K c 3 _ _ (Ns_eq 3) _ (srecv_sem 3))
  iintro ⟨HO, V3, A3⟩
  iapplyF (st_ldStat m c 3 _ rfl)
  iintro A3
  iapplyF (st_srecv m K c 4 _ _ (Ns_eq 4) _ (srecv_sem 4))
  iintro ⟨HO, V4, A4⟩
  iapplyF (st_ldStat m c 4 _ rfl)
  iintro A4
  iapply (wpc_ret' c (b := (inv2 m c)) rfl)
  iapply Hk
  iframe

/-- The sums of slots 5 and 6; statistics transfers 0 and 1 have left. -/
theorem part7 (v106 : BitVec 32) {Q : _ → sProp 𝕄} :
    iprop(ctx m K c ∗ owe c 15 ∗ wSr c 5 ∗ wSr c 6 ∗ (wSs c 0 ∗ cSs c 0) ∗ wSs c 1 ∗ cSs c 1)
      ⊢ iprop(((owe c 15 ∗ (semVal (srecvC c 5) 0 ∗ statAt m c 5) ∗ (semVal (srecvC c 6) 0 ∗ statAt m c 6) ∗ (semVal (ssendC c 0) 0 ∗ sPts m c (shS (0 : Fin 7).val)) ∗ semVal (ssendC c 1) 0 ∗ sPts m c (shS (1 : Fin 7).val)) -∗ Q (invV m c))
        -∗ wpc c (k0_part7 (F := F) eM h0 sM h1 oM h2 commB h3 statB h4 stageB h5 cc0_scratch3 cc0_scratch4 cc0_scratch5 cc0_scratch6 cc0_scratch7 cc0_scratch8 v106 (inv2 m c)) Q) := by
  rw [k0_part7_eq_skeleton]
  simp only [k0_part7_skel, Prog.lift, Prog.bind_op, Prog.bind_ret, bind_pure_comp, map_op, map_ret]
  iintro ⟨#Hc, HO, W0, W1, ⟨X0, Y0⟩, X1, Y1⟩ Hk
  iapplyF (st_srecv m K c 5 _ _ (Ns_eq 5) _ (srecv_sem 5))
  iintro ⟨HO, V5, A5⟩
  iapplyF (st_ldStat m c 5 _ rfl)
  iintro A5
  iapplyF (st_srecv m K c 6 _ _ (Ns_eq 6) _ (srecv_sem 6))
  iintro ⟨HO, V6, A6⟩
  iapplyF (st_ldStat m c 6 _ rfl)
  iintro A6
  iapplyF (st_ssend m K c 0 _ _ Ns_eq' _ (ssend_sem 0))
  iintro ⟨HO, U0, P0⟩
  iapplyF (st_ssend m K c 1 _ _ Ns_eq' _ (ssend_sem 1))
  iintro ⟨HO, U1, P1⟩
  iapply (wpc_ret' c (b := (invV m c)) rfl)
  iapply Hk
  iframe

/-- The other statistics transfers have left. -/
theorem part8 (v2 : BitVec 32) {Q : _ → sProp 𝕄} :
    iprop(ctx m K c ∗ owe c 15 ∗ (wSs c 2 ∗ cSs c 2) ∗ (wSs c 3 ∗ cSs c 3) ∗ (wSs c 4 ∗ cSs c 4) ∗ (wSs c 5 ∗ cSs c 5) ∗ (wSs c 6 ∗ cSs c 6) ∗ ePts m c fullShare.left)
      ⊢ iprop((∀ v, (owe c 15 ∗ (semVal (ssendC c 2) 0 ∗ sPts m c (shS (2 : Fin 7).val)) ∗ (semVal (ssendC c 3) 0 ∗ sPts m c (shS (3 : Fin 7).val)) ∗ (semVal (ssendC c 4) 0 ∗ sPts m c (shS (4 : Fin 7).val)) ∗ (semVal (ssendC c 5) 0 ∗ sPts m c (shS (5 : Fin 7).val)) ∗ (semVal (ssendC c 6) 0 ∗ sPts m c (shS (6 : Fin 7).val)) ∗ ePts m c fullShare.left) -∗ Q ⟨k0_pay4 (invV m c) (ldE m c 0), v⟩)
        -∗ wpc c (k0_part8 (F := F) eM h0 sM h1 oM h2 commB h3 statB h4 stageB h5 cc0_scratch3 cc0_scratch4 cc0_scratch5 cc0_scratch6 cc0_scratch7 cc0_scratch8 v2 (invV m c)) Q) := by
  rw [k0_part8_eq_skeleton]
  simp only [k0_part8_skel, Prog.lift, Prog.bind_op, Prog.bind_ret, bind_pure_comp, map_op, map_ret]
  iintro ⟨#Hc, HO, ⟨X0, Y0⟩, ⟨X1, Y1⟩, ⟨X2, Y2⟩, ⟨X3, Y3⟩, ⟨X4, Y4⟩, HE⟩ Hk
  iapplyF (st_ssend m K c 2 _ _ Ns_eq' _ (ssend_sem 2))
  iintro ⟨HO, U2, P2⟩
  iapplyF (st_ssend m K c 3 _ _ Ns_eq' _ (ssend_sem 3))
  iintro ⟨HO, U3, P3⟩
  iapplyF (st_ssend m K c 4 _ _ Ns_eq' _ (ssend_sem 4))
  iintro ⟨HO, U4, P4⟩
  iapplyF (st_ssend m K c 5 _ _ Ns_eq' _ (ssend_sem 5))
  iintro ⟨HO, U5, P5⟩
  iapplyF (st_ssend m K c 6 _ _ Ns_eq' _ (ssend_sem 6))
  iintro ⟨HO, U6, P6⟩
  iapplyF (st_ldE m c 0 fullShare.left _ rfl)
  iintro HE
  dsimp only
  iapply (wpc_ret c)
  iapply Hk
  iframe

end Parts

end Cert.KernelIdeal.Ring

end
-- ==== Proof.IdealPartsB.lean ====
/-
  The kernel's body, part by part: the ring.
-/
module

public import proofs.«01_k».proof.Proof.IdealPartsA

@[expose] public section

noncomputable section

namespace Cert.KernelIdeal.Ring

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig ℕ (Elt F) ℕ UU ℕ

variable (m : (ℓ : Loc nD τ sig) → Buf (Elt F) ℓ)

section Parts

variable (K : GSem nD τ sig → ℕ) (c : Dev nD)
variable (h0 : eM.IsWhole) (h1 : sM.IsWhole) (h2 : oM.IsWhole) (h3 : commB.IsWhole) (h4 : statB.IsWhole) (h5 : stageB.IsWhole)

/-- Blocks 0 and 1 are sent to the result. -/
theorem part9 (v2 v7 v216 : BitVec 32) {Q : _ → sProp 𝕄} :
    iprop(ctx m K c ∗ (stageAny c 0 ∗ tO c 0 ∗ pO c 0 0) ∗ (stageAny c 1 ∗ tO c 1 ∗ pO c 1 0) ∗ ePts m c fullShare.left)
      ⊢ iprop((∀ v, ((cO c 0 ∗ pO c 0 0) ∗ (cO c 1 ∗ pO c 1 0) ∗ ePts m c fullShare.left) -∗ Q v)
        -∗ wpc c (k0_part9 (F := F) eM h0 sM h1 oM h2 commB h3 statB h4 stageB h5 cc0_scratch3 cc0_scratch4 cc0_scratch5 cc0_scratch6 cc0_scratch7 cc0_scratch8 c v2 v7 (invV m c) (k0_pay4 (invV m c) (ldE m c 0)) v216) Q) := by
  rw [k0_part9_eq_skeleton]
  simp only [k0_part9_skel, Prog.lift, Prog.bind_op, Prog.bind_ret, bind_pure_comp, map_op, map_ret]
  iintro ⟨#Hc, ⟨S0, T0, G0⟩, ⟨S1, T1, G1⟩, HE⟩ Hk
  iapplyF (st_ldStage c 0 _ rfl)
  iintro S0
  iapplyF (st_stage m c 0 0 rfl _ rfl _ (pay_own m c 0 0 rfl rfl))
  iintro S0
  iapplyF (st_out m K c 0 _ rfl _ (outV_of c 0 (out_off1 c 0)) _ (osem_sem 0) 0 rfl 0 rfl)
  iintro ⟨Y0, G0⟩
  iapplyF (st_ldE m c 1 fullShare.left _ rfl)
  iintro HE
  iapplyF (st_ldStage c 1 _ rfl)
  iintro S1
  iapplyF (st_stage m c 1 1 rfl _ rfl _ (pay_own m c 1 1 rfl rfl))
  iintro S1
  iapplyF (st_out m K c 1 _ rfl _ (outV_of c 1 (out_off1 c 1)) _ (osem_sem 1) 0 rfl 1 rfl)
  iintro ⟨Y1, G1⟩
  iapply (wpc_ret c)
  iapply Hk
  iframe

/-- Ring step 0 has landed and left; ring step 1. -/
theorem part10 (v2 v7 : BitVec 32) {Q : _ → sProp 𝕄} :
    iprop(ctx m K c ∗ rOpen c ∗ owe c 15 ∗ wDr c 0 ∗ (wDs c 0 ∗ cDs c 0) ∗ tD c 1 ∗ dstC c 1 ∗ pCr c 0)
      ⊢ iprop((∀ v, (owe c 16 ∗ (semVal (drecvC c 0) 0 ∗ semVal (dsendC c 0) 0) ∗ ePts m c fullShare.right ∗ cDs c 1 ∗ commAt m c 0 fullShare.left ∗ pCr c 0) -∗ Q ⟨v, k0_pay7 (invV m c) (ldC m c 0 0)⟩)
        -∗ wpc c (k0_part10 (F := F) eM h0 sM h1 oM h2 commB h3 statB h4 stageB h5 cc0_scratch3 cc0_scratch4 cc0_scratch5 cc0_scratch6 cc0_scratch7 cc0_scratch8 c v2 v7 (invV m c)) Q) := by
  rw [k0_part10_eq_skeleton]
  simp only [k0_part10_skel, Prog.lift, Prog.bind_op, Prog.bind_ret, bind_pure_comp, map_op, map_ret]
  iintro ⟨#Hc, #Hr, HO, W, ⟨X, Y⟩, T, HD, HP⟩ Hk
  iapplyF (st_drecv m K c 0 15 (by decide) _ _ (Nc_eq 0) _ (drecv_sem 0))
  unfold gotC
  iintro ⟨HO, VR, HL, HR, HC⟩
  iapplyF (st_dsend m K c 0 15 (by decide) _ _ Nc_eq' _ (dsend_sem 0))
  rw [dsend_own m c]
  iintro ⟨HO, VD, HE⟩
  iapplyF (st_pass m K c 1 0 rfl _ (dev_of c 1 (k0_dev16_lt c) (k0_dev16_eq c)) _ _ rfl rfl _ _ (dsend_sem 1) (drecv_sem 1) 15 rfl 1 rfl 0 rfl)
  iintro ⟨HO, CD, HP⟩
  iapplyF (st_ldC m c 0 0 _ rfl)
  iintro HL
  dsimp only
  iapply (wpc_ret c)
  iapply Hk
  iframe

/-- Blocks 2 and 3 are computed. -/
theorem part11 (v262 : BitVec 32) {Q : _ → sProp 𝕄} :
    iprop(ctx m K c ∗ owe c 16 ∗ (pO c 0 0 ∗ cO c 0 ∗ tO c 2) ∗ (pO c 1 0 ∗ cO c 1) ∗ commAt m c 0 fullShare.left)
      ⊢ iprop((∀ v, (owe c 16 ∗ (pO c 0 1 ∗ outDone m c 0 ∗ cO c 2) ∗ (pO c 1 1 ∗ outDone m c 1 ∗ stageF m c 3) ∗ commAt m c 0 fullShare.left) -∗ Q v)
        -∗ wpc c (k0_part11 (F := F) eM h0 sM h1 oM h2 commB h3 statB h4 stageB h5 cc0_scratch3 cc0_scratch4 cc0_scratch5 cc0_scratch6 cc0_scratch7 cc0_scratch8 c (invV m c) v262 (k0_pay7 (invV m c) (ldC m c 0 0))) Q) := by
  rw [k0_part11_eq_skeleton]
  simp only [k0_part11_skel, Prog.lift, Prog.bind_op, Prog.bind_ret, bind_pure_comp, map_op, map_ret]
  iintro ⟨#Hc, HO, ⟨G0, C0, T0⟩, ⟨G1, C1⟩, HL⟩ Hk
  iapplyF (st_turn m K c 0 2 rfl _ _ No_of _ (osem_sem 0) 16 0 1 rfl rfl 0 rfl (by decide) _ rfl _ rfl _ (pay_ring m c 0 0 2 rfl rfl))
  iintro ⟨HO, G0, Z0, F2⟩
  iapplyF (st_out m K c 2 _ rfl _ (outV_of c 2 (out_off c 6 0 2 rfl rfl)) _ (osem_sem 0) 1 rfl 0 rfl)
  iintro ⟨Y2, G0⟩
  iapplyF (st_ldC m c 0 1 _ rfl)
  iintro HL
  iapplyF (st_turn m K c 1 3 rfl _ _ No_of _ (osem_sem 1) 16 0 1 rfl rfl 1 rfl (by decide) _ rfl _ rfl _ (pay_ring m c 0 1 3 rfl rfl))
  iintro ⟨HO, G1, Z1, F3⟩
  iapply (wpc_ret c)
  iapply Hk
  iframe

/-- Block 3 is sent; ring step 1 has landed and left; the slots swap. -/
theorem part12 (v5 v7 : BitVec 32) {Q : _ → sProp 𝕄} :
    iprop(ctx m K c ∗ owe c 16 ∗ (stageF m c 3 ∗ tO c 3 ∗ pO c 1 1) ∗ wDr c 1 ∗ (wDs c 1 ∗ cDs c 1) ∗ (tCr c 0 ∗ wCr c 0 ∗ pCr c 0) ∗ commAt m c 0 fullShare.left)
      ⊢ iprop((∀ v, (owe c 17 ∗ (cO c 3 ∗ pO c 1 1) ∗ (semVal (drecvC c 1) 0 ∗ semVal (dsendC c 1) 0) ∗ (commAt m c 1 fullShare.left ∗ commAt m c 1 fullShare.right) ∗ pCr c 1 ∗ dstC c 0) -∗ Q v)
        -∗ wpc c (k0_part12 (F := F) eM h0 sM h1 oM h2 commB h3 statB h4 stageB h5 cc0_scratch3 cc0_scratch4 cc0_scratch5 cc0_scratch6 cc0_scratch7 cc0_scratch8 c v5 v7) Q) := by
  rw [k0_part12_eq_skeleton]
  simp only [k0_part12_skel, semSignalWord, semWaitWord, one_toInt, Prog.lift, Prog.bind_op, Prog.bind_ret, bind_pure_comp, map_op, map_ret]
  iintro ⟨#Hc, HO, ⟨S, T, G1⟩, W, ⟨X, Y⟩, ⟨T1, T2, HP⟩, HM⟩ Hk
  iapplyF (st_out m K c 3 _ rfl _ (outV_of c 3 (out_off c 6 1 3 rfl rfl)) _ (osem_sem 1) 1 rfl 1 rfl)
  iintro ⟨Y3, G1⟩
  iapplyF (st_drecv m K c 1 16 (by decide) _ _ (Nc_eq 1) _ (drecv_sem 1))
  unfold gotC
  iintro ⟨HO, VR, HL2, HR, HC⟩
  iapplyF (st_dsend m K c 1 16 (by decide) _ _ (Nc_eq 0) _ (dsend_sem 1))
  rw [dsend_ring m c 1 0 rfl]
  iintro ⟨HO, VD, HE⟩
  iapplyF (st_swap m K c 0 0 1 rfl rfl _ (dev_of c 7 (k0_dev17_lt c) (k0_dev17_eq c)) _ credit_sem 16 rfl (by decide) 0 rfl 0 1 rfl rfl)
  iintro ⟨HO, HP, HD⟩
  iapply (wpc_ret c)
  iapply Hk
  iframe

/-- Ring step 2; block 4 is sent. -/
theorem part13 (v2 : BitVec 32) {Q : _ → sProp 𝕄} :
    iprop(ctx m K c ∗ rOpen c ∗ owe c 17 ∗ tD c 2 ∗ (commAt m c 1 fullShare.left ∗ commAt m c 1 fullShare.right) ∗ dstC c 0 ∗ pCr c 1 ∗ (pO c 0 1 ∗ cO c 2 ∗ tO c 4))
      ⊢ iprop((∀ v v', (owe c 18 ∗ cDs c 2 ∗ commAt m c 1 fullShare.left ∗ pCr c 1 ∗ (pO c 0 2 ∗ outDone m c 2 ∗ cO c 4)) -∗ Q ⟨v, k0_pay11 (invV m c) (ldC m c 1 1), v'⟩)
        -∗ wpc c (k0_part13 (F := F) eM h0 sM h1 oM h2 commB h3 statB h4 stageB h5 cc0_scratch3 cc0_scratch4 cc0_scratch5 cc0_scratch6 cc0_scratch7 cc0_scratch8 c v2 (invV m c)) Q) := by
  rw [k0_part13_eq_skeleton]
  simp only [k0_part13_skel, Prog.lift, Prog.bind_op, Prog.bind_ret, bind_pure_comp, map_op, map_ret]
  iintro ⟨#Hc, #Hr, HO, T, ⟨HL, HR⟩, HD, HP, G0, C0, T0⟩ Hk
  iapplyF (st_pass m K c 2 1 rfl _ (dev_of c 1 (k0_dev18_lt c) (k0_dev18_eq c)) _ _ rfl rfl _ _ (dsend_sem 2) (drecv_sem 2) 17 rfl 0 rfl 1 rfl)
  iintro ⟨HO, CD, HP⟩
  iapplyF (st_ldC m c 1 0 _ rfl)
  iintro HL
  iapplyF (st_turn m K c 2 4 rfl _ _ No_of _ (osem_sem 0) 18 1 2 rfl rfl 0 rfl (by decide) _ rfl _ rfl _ (pay_ring m c 1 0 4 rfl rfl))
  iintro ⟨HO, G0, Z2, F4⟩
  iapplyF (st_out m K c 4 _ rfl _ (outV_of c 4 (out_off c 5 0 4 rfl rfl)) _ (osem_sem 0) 2 rfl 0 rfl)
  iintro ⟨Y4, G0⟩
  iapplyF (st_ldC m c 1 1 _ rfl)
  iintro HL
  dsimp only
  iapply (wpc_ret c)
  iapply Hk
  iframe

/-- Block 5 is sent; ring step 2 has landed. -/
theorem part14 (v7 v330 v : BitVec 32) {Q : _ → sProp 𝕄} :
    iprop(ctx m K c ∗ owe c 18 ∗ (pO c 1 1 ∗ cO c 3 ∗ tO c 5) ∗ wDr c 2)
      ⊢ iprop((∀ v, (owe c 18 ∗ (pO c 1 2 ∗ outDone m c 3 ∗ cO c 5) ∗ semVal (drecvC c 2) 0 ∗ (commAt m c 2 fullShare.left ∗ commAt m c 2 fullShare.right) ∗ rCredit c 2) -∗ Q v)
        -∗ wpc c (k0_part14 (F := F) eM h0 sM h1 oM h2 commB h3 statB h4 stageB h5 cc0_scratch3 cc0_scratch4 cc0_scratch5 cc0_scratch6 cc0_scratch7 cc0_scratch8 c v7 v330 (k0_pay11 (invV m c) (ldC m c 1 1)) v) Q) := by
  rw [k0_part14_eq_skeleton]
  simp only [k0_part14_skel, Prog.lift, Prog.bind_op, Prog.bind_ret, bind_pure_comp, map_op, map_ret]
  iintro ⟨#Hc, HO, ⟨G1, C1, T1⟩, W⟩ Hk
  iapplyF (st_turn m K c 3 5 rfl _ _ No_of _ (osem_sem 1) 18 1 2 rfl rfl 1 rfl (by decide) _ rfl _ rfl _ (pay_ring m c 1 1 5 rfl rfl))
  iintro ⟨HO, G1, Z3, F5⟩
  iapplyF (st_out m K c 5 _ rfl _ (outV_of c 5 (out_off c 5 1 5 rfl rfl)) _ (osem_sem 1) 2 rfl 1 rfl)
  iintro ⟨Y5, G1⟩
  iapplyF (st_drecv m K c 2 18 (by decide) _ _ (Nc_eq 0) _ (drecv_sem 2))
  unfold gotC
  iintro ⟨HO, VR, HL, HR, HC⟩
  iapply (wpc_ret c)
  iapply Hk
  iframe

/-- Ring step 2 has left; the slots swap; ring step 3. -/
theorem part15 (v2 v5 v7 : BitVec 32) {Q : _ → sProp 𝕄} :
    iprop(ctx m K c ∗ rOpen c ∗ owe c 18 ∗ (wDs c 2 ∗ cDs c 2) ∗ (tCr c 1 ∗ wCr c 1 ∗ pCr c 1) ∗ commAt m c 1 fullShare.left ∗ rCredit c 2 ∗ tD c 3 ∗ (commAt m c 2 fullShare.left ∗ commAt m c 2 fullShare.right))
      ⊢ iprop((∀ v, (owe c 20 ∗ semVal (dsendC c 2) 0 ∗ pCr c 2 ∗ cDs c 3 ∗ commAt m c 2 fullShare.left) -∗ Q ⟨v, k0_pay13 (invV m c) (ldC m c 2 0)⟩)
        -∗ wpc c (k0_part15 (F := F) eM h0 sM h1 oM h2 commB h3 statB h4 stageB h5 cc0_scratch3 cc0_scratch4 cc0_scratch5 cc0_scratch6 cc0_scratch7 cc0_scratch8 c v2 v5 v7 (invV m c)) Q) := by
  rw [k0_part15_eq_skeleton]
  simp only [k0_part15_skel, semSignalWord, semWaitWord, one_toInt, Prog.lift, Prog.bind_op, Prog.bind_ret, bind_pure_comp, map_op, map_ret]
  iintro ⟨#Hc, #Hr, HO, ⟨X, Y⟩, ⟨T1, T2, HP⟩, HM, HC, T, ⟨HL, HR⟩⟩ Hk
  iapplyF (st_dsend m K c 2 18 (by decide) _ _ (Nc_eq 1) _ (dsend_sem 2))
  rw [dsend_ring m c 2 1 rfl]
  iintro ⟨HO, VD, HE⟩
  iapplyF (st_swap m K c 1 1 2 rfl rfl _ (dev_of c 7 (k0_dev19_lt c) (k0_dev19_eq c)) _ credit_sem 18 rfl (by decide) 1 rfl 1 2 rfl rfl)
  iintro ⟨HO, HP, HD⟩
  iapplyF (st_pass m K c 3 2 rfl _ (dev_of c 1 (k0_dev20_lt c) (k0_dev20_eq c)) _ _ rfl rfl _ _ (dsend_sem 3) (drecv_sem 3) 19 rfl 1 rfl 2 rfl)
  iintro ⟨HO, CD, HP⟩
  iapplyF (st_ldC m c 2 0 _ rfl)
  iintro HL
  dsimp only
  iapply (wpc_ret c)
  iapply Hk
  iframe

/-- Blocks 6 and 7 are computed. -/
theorem part16 (v398 : BitVec 32) {Q : _ → sProp 𝕄} :
    iprop(ctx m K c ∗ owe c 20 ∗ (pO c 0 2 ∗ cO c 4 ∗ tO c 6) ∗ (pO c 1 2 ∗ cO c 5) ∗ commAt m c 2 fullShare.left)
      ⊢ iprop((∀ v, (owe c 20 ∗ (pO c 0 3 ∗ outDone m c 4 ∗ cO c 6) ∗ (pO c 1 3 ∗ outDone m c 5 ∗ stageF m c 7) ∗ commAt m c 2 fullShare.left) -∗ Q v)
        -∗ wpc c (k0_part16 (F := F) eM h0 sM h1 oM h2 commB h3 statB h4 stageB h5 cc0_scratch3 cc0_scratch4 cc0_scratch5 cc0_scratch6 cc0_scratch7 cc0_scratch8 c (invV m c) v398 (k0_pay13 (invV m c) (ldC m c 2 0))) Q) := by
  rw [k0_part16_eq_skeleton]
  simp only [k0_part16_skel, Prog.lift, Prog.bind_op, Prog.bind_ret, bind_pure_comp, map_op, map_ret]
  iintro ⟨#Hc, HO, ⟨G0, C0, T0⟩, ⟨G1, C1⟩, HL⟩ Hk
  iapplyF (st_turn m K c 4 6 rfl _ _ No_of _ (osem_sem 0) 20 2 3 rfl rfl 0 rfl (by decide) _ rfl _ rfl _ (pay_ring m c 2 0 6 rfl rfl))
  iintro ⟨HO, G0, Z4, F6⟩
  iapplyF (st_out m K c 6 _ rfl _ (outV_of c 6 (out_off c 4 0 6 rfl rfl)) _ (osem_sem 0) 3 rfl 0 rfl)
  iintro ⟨Y6, G0⟩
  iapplyF (st_ldC m c 2 1 _ rfl)
  iintro HL
  iapplyF (st_turn m K c 5 7 rfl _ _ No_of _ (osem_sem 1) 20 2 3 rfl rfl 1 rfl (by decide) _ rfl _ rfl _ (pay_ring m c 2 1 7 rfl rfl))
  iintro ⟨HO, G1, Z5, F7⟩
  iapply (wpc_ret c)
  iapply Hk
  iframe

/-- Block 7 is sent; ring step 3 has landed and left; the slots swap. -/
theorem part17 (v5 v7 : BitVec 32) {Q : _ → sProp 𝕄} :
    iprop(ctx m K c ∗ owe c 20 ∗ (stageF m c 7 ∗ tO c 7 ∗ pO c 1 3) ∗ wDr c 3 ∗ (wDs c 3 ∗ cDs c 3) ∗ (tCr c 2 ∗ wCr c 2 ∗ pCr c 2) ∗ commAt m c 2 fullShare.left)
      ⊢ iprop((∀ v, (owe c 21 ∗ (cO c 7 ∗ pO c 1 3) ∗ (semVal (drecvC c 3) 0 ∗ semVal (dsendC c 3) 0) ∗ (commAt m c 3 fullShare.left ∗ commAt m c 3 fullShare.right) ∗ pCr c 3 ∗ dstC c 0) -∗ Q v)
        -∗ wpc c (k0_part17 (F := F) eM h0 sM h1 oM h2 commB h3 statB h4 stageB h5 cc0_scratch3 cc0_scratch4 cc0_scratch5 cc0_scratch6 cc0_scratch7 cc0_scratch8 c v5 v7) Q) := by
  rw [k0_part17_eq_skeleton]
  simp only [k0_part17_skel, semSignalWord, semWaitWord, one_toInt, Prog.lift, Prog.bind_op, Prog.bind_ret, bind_pure_comp, map_op, map_ret]
  iintro ⟨#Hc, HO, ⟨S, T, G1⟩, W, ⟨X, Y⟩, ⟨T1, T2, HP⟩, HM⟩ Hk
  iapplyF (st_out m K c 7 _ rfl _ (outV_of c 7 (out_off c 4 1 7 rfl rfl)) _ (osem_sem 1) 3 rfl 1 rfl)
  iintro ⟨Y7, G1⟩
  iapplyF (st_drecv m K c 3 20 (by decide) _ _ (Nc_eq 1) _ (drecv_sem 3))
  unfold gotC
  iintro ⟨HO, VR, HL2, HR, HC⟩
  iapplyF (st_dsend m K c 3 20 (by decide) _ _ (Nc_eq 0) _ (dsend_sem 3))
  rw [dsend_ring m c 3 2 rfl]
  iintro ⟨HO, VD, HE⟩
  iapplyF (st_swap m K c 2 2 3 rfl rfl _ (dev_of c 7 (k0_dev21_lt c) (k0_dev21_eq c)) _ credit_sem 20 rfl (by decide) 0 rfl 2 3 rfl rfl)
  iintro ⟨HO, HP, HD⟩
  iapply (wpc_ret c)
  iapply Hk
  iframe

/-- Ring step 4; block 8 is sent. -/
theorem part18 (v2 : BitVec 32) {Q : _ → sProp 𝕄} :
    iprop(ctx m K c ∗ rOpen c ∗ owe c 21 ∗ tD c 4 ∗ (commAt m c 3 fullShare.left ∗ commAt m c 3 fullShare.right) ∗ dstC c 0 ∗ pCr c 3 ∗ (pO c 0 3 ∗ cO c 6 ∗ tO c 8))
      ⊢ iprop((∀ v, (owe c 22 ∗ cDs c 4 ∗ commAt m c 3 fullShare.left ∗ pCr c 3 ∗ (pO c 0 4 ∗ outDone m c 6 ∗ cO c 8)) -∗ Q ⟨v, k0_pay17 (ldC m c 3 1), k0_pay18 (invV m c)⟩)
        -∗ wpc c (k0_part18 (F := F) eM h0 sM h1 oM h2 commB h3 statB h4 stageB h5 cc0_scratch3 cc0_scratch4 cc0_scratch5 cc0_scratch6 cc0_scratch7 cc0_scratch8 c v2 (invV m c)) Q) := by
  rw [k0_part18_eq_skeleton]
  simp only [k0_part18_skel, Prog.lift, Prog.bind_op, Prog.bind_ret, bind_pure_comp, map_op, map_ret]
  iintro ⟨#Hc, #Hr, HO, T, ⟨HL, HR⟩, HD, HP, G0, C0, T0⟩ Hk
  iapplyF (st_pass m K c 4 3 rfl _ (dev_of c 1 (k0_dev22_lt c) (k0_dev22_eq c)) _ _ rfl rfl _ _ (dsend_sem 4) (drecv_sem 4) 21 rfl 0 rfl 3 rfl)
  iintro ⟨HO, CD, HP⟩
  iapplyF (st_ldC m c 3 0 _ rfl)
  iintro HL
  iapplyF (st_turn m K c 6 8 rfl _ _ No_of _ (osem_sem 0) 22 3 4 rfl rfl 0 rfl (by decide) _ rfl _ rfl _ (pay_ring m c 3 0 8 rfl rfl))
  iintro ⟨HO, G0, Z6, F8⟩
  iapplyF (st_out m K c 8 _ rfl _ (outV_of c 8 (out_off c 3 0 8 rfl rfl)) _ (osem_sem 0) 4 rfl 0 rfl)
  iintro ⟨Y8, G0⟩
  iapplyF (st_ldC m c 3 1 _ rfl)
  iintro HL
  dsimp only
  iapply (wpc_ret c)
  iapply Hk
  iframe

/-- Block 9 is sent; ring step 4 has landed. -/
theorem part19 (v7 v466 : BitVec 32) {Q : _ → sProp 𝕄} :
    iprop(ctx m K c ∗ owe c 22 ∗ (pO c 1 3 ∗ cO c 7 ∗ tO c 9) ∗ wDr c 4)
      ⊢ iprop((∀ v, (owe c 22 ∗ (pO c 1 4 ∗ outDone m c 7 ∗ cO c 9) ∗ semVal (drecvC c 4) 0 ∗ (commAt m c 4 fullShare.left ∗ commAt m c 4 fullShare.right) ∗ rCredit c 4) -∗ Q v)
        -∗ wpc c (k0_part19 (F := F) eM h0 sM h1 oM h2 commB h3 statB h4 stageB h5 cc0_scratch3 cc0_scratch4 cc0_scratch5 cc0_scratch6 cc0_scratch7 cc0_scratch8 c v7 v466 (k0_pay17 (ldC m c 3 1)) (k0_pay18 (invV m c))) Q) := by
  rw [k0_part19_eq_skeleton]
  simp only [k0_part19_skel, Prog.lift, Prog.bind_op, Prog.bind_ret, bind_pure_comp, map_op, map_ret]
  iintro ⟨#Hc, HO, ⟨G1, C1, T1⟩, W⟩ Hk
  iapplyF (st_turn m K c 7 9 rfl _ _ No_of _ (osem_sem 1) 22 3 4 rfl rfl 1 rfl (by decide) _ rfl _ rfl _ (pay_ring m c 3 1 9 rfl rfl))
  iintro ⟨HO, G1, Z7, F9⟩
  iapplyF (st_out m K c 9 _ rfl _ (outV_of c 9 (out_off c 3 1 9 rfl rfl)) _ (osem_sem 1) 4 rfl 1 rfl)
  iintro ⟨Y9, G1⟩
  iapplyF (st_drecv m K c 4 22 (by decide) _ _ (Nc_eq 0) _ (drecv_sem 4))
  unfold gotC
  iintro ⟨HO, VR, HL, HR, HC⟩
  iapply (wpc_ret c)
  iapply Hk
  iframe

/-- Ring step 4 has left; the slots swap; ring step 5. -/
theorem part20 (v2 v5 v7 : BitVec 32) {Q : _ → sProp 𝕄} :
    iprop(ctx m K c ∗ rOpen c ∗ owe c 22 ∗ (wDs c 4 ∗ cDs c 4) ∗ (tCr c 3 ∗ wCr c 3 ∗ pCr c 3) ∗ commAt m c 3 fullShare.left ∗ rCredit c 4 ∗ tD c 5 ∗ (commAt m c 4 fullShare.left ∗ commAt m c 4 fullShare.right))
      ⊢ iprop((∀ v, (owe c 24 ∗ semVal (dsendC c 4) 0 ∗ pCr c 4 ∗ cDs c 5 ∗ commAt m c 4 fullShare.left) -∗ Q ⟨v, k0_pay20 (invV m c) (ldC m c 4 0)⟩)
        -∗ wpc c (k0_part20 (F := F) eM h0 sM h1 oM h2 commB h3 statB h4 stageB h5 cc0_scratch3 cc0_scratch4 cc0_scratch5 cc0_scratch6 cc0_scratch7 cc0_scratch8 c v2 v5 v7 (invV m c)) Q) := by
  rw [k0_part20_eq_skeleton]
  simp only [k0_part20_skel, semSignalWord, semWaitWord, one_toInt, Prog.lift, Prog.bind_op, Prog.bind_ret, bind_pure_comp, map_op, map_ret]
  iintro ⟨#Hc, #Hr, HO, ⟨X, Y⟩, ⟨T1, T2, HP⟩, HM, HC, T, ⟨HL, HR⟩⟩ Hk
  iapplyF (st_dsend m K c 4 22 (by decide) _ _ (Nc_eq 1) _ (dsend_sem 4))
  rw [dsend_ring m c 4 3 rfl]
  iintro ⟨HO, VD, HE⟩
  iapplyF (st_swap m K c 3 3 4 rfl rfl _ (dev_of c 7 (k0_dev23_lt c) (k0_dev23_eq c)) _ credit_sem 22 rfl (by decide) 1 rfl 3 4 rfl rfl)
  iintro ⟨HO, HP, HD⟩
  iapplyF (st_pass m K c 5 4 rfl _ (dev_of c 1 (k0_dev24_lt c) (k0_dev24_eq c)) _ _ rfl rfl _ _ (dsend_sem 5) (drecv_sem 5) 23 rfl 1 rfl 4 rfl)
  iintro ⟨HO, CD, HP⟩
  iapplyF (st_ldC m c 4 0 _ rfl)
  iintro HL
  dsimp only
  iapply (wpc_ret c)
  iapply Hk
  iframe

/-- Blocks 10 and 11 are computed. -/
theorem part21 (v534 : BitVec 32) {Q : _ → sProp 𝕄} :
    iprop(ctx m K c ∗ owe c 24 ∗ (pO c 0 4 ∗ cO c 8 ∗ tO c 10) ∗ (pO c 1 4 ∗ cO c 9) ∗ commAt m c 4 fullShare.left)
      ⊢ iprop((∀ v, (owe c 24 ∗ (pO c 0 5 ∗ outDone m c 8 ∗ cO c 10) ∗ (pO c 1 5 ∗ outDone m c 9 ∗ stageF m c 11) ∗ commAt m c 4 fullShare.left) -∗ Q v)
        -∗ wpc c (k0_part21 (F := F) eM h0 sM h1 oM h2 commB h3 statB h4 stageB h5 cc0_scratch3 cc0_scratch4 cc0_scratch5 cc0_scratch6 cc0_scratch7 cc0_scratch8 c (invV m c) v534 (k0_pay20 (invV m c) (ldC m c 4 0))) Q) := by
  rw [k0_part21_eq_skeleton]
  simp only [k0_part21_skel, Prog.lift, Prog.bind_op, Prog.bind_ret, bind_pure_comp, map_op, map_ret]
  iintro ⟨#Hc, HO, ⟨G0, C0, T0⟩, ⟨G1, C1⟩, HL⟩ Hk
  iapplyF (st_turn m K c 8 10 rfl _ _ No_of _ (osem_sem 0) 24 4 5 rfl rfl 0 rfl (by decide) _ rfl _ rfl _ (pay_ring m c 4 0 10 rfl rfl))
  iintro ⟨HO, G0, Z8, F10⟩
  iapplyF (st_out m K c 10 _ rfl _ (outV_of c 10 (out_off c 2 0 10 rfl rfl)) _ (osem_sem 0) 5 rfl 0 rfl)
  iintro ⟨Y10, G0⟩
  iapplyF (st_ldC m c 4 1 _ rfl)
  iintro HL
  iapplyF (st_turn m K c 9 11 rfl _ _ No_of _ (osem_sem 1) 24 4 5 rfl rfl 1 rfl (by decide) _ rfl _ rfl _ (pay_ring m c 4 1 11 rfl rfl))
  iintro ⟨HO, G1, Z9, F11⟩
  iapply (wpc_ret c)
  iapply Hk
  iframe

/-- Block 11 is sent; ring step 5 has landed and left; the slots swap. -/
theorem part22 (v5 v7 : BitVec 32) {Q : _ → sProp 𝕄} :
    iprop(ctx m K c ∗ owe c 24 ∗ (stageF m c 11 ∗ tO c 11 ∗ pO c 1 5) ∗ wDr c 5 ∗ (wDs c 5 ∗ cDs c 5) ∗ (tCr c 4 ∗ wCr c 4 ∗ pCr c 4) ∗ commAt m c 4 fullShare.left)
      ⊢ iprop((∀ v, (owe c 25 ∗ (cO c 11 ∗ pO c 1 5) ∗ (semVal (drecvC c 5) 0 ∗ semVal (dsendC c 5) 0) ∗ (commAt m c 5 fullShare.left ∗ commAt m c 5 fullShare.right) ∗ pCr c 5 ∗ dstC c 0) -∗ Q v)
        -∗ wpc c (k0_part22 (F := F) eM h0 sM h1 oM h2 commB h3 statB h4 stageB h5 cc0_scratch3 cc0_scratch4 cc0_scratch5 cc0_scratch6 cc0_scratch7 cc0_scratch8 c v5 v7) Q) := by
  rw [k0_part22_eq_skeleton]
  simp only [k0_part22_skel, semSignalWord, semWaitWord, one_toInt, Prog.lift, Prog.bind_op, Prog.bind_ret, bind_pure_comp, map_op, map_ret]
  iintro ⟨#Hc, HO, ⟨S, T, G1⟩, W, ⟨X, Y⟩, ⟨T1, T2, HP⟩, HM⟩ Hk
  iapplyF (st_out m K c 11 _ rfl _ (outV_of c 11 (out_off c 2 1 11 rfl rfl)) _ (osem_sem 1) 5 rfl 1 rfl)
  iintro ⟨Y11, G1⟩
  iapplyF (st_drecv m K c 5 24 (by decide) _ _ (Nc_eq 1) _ (drecv_sem 5))
  unfold gotC
  iintro ⟨HO, VR, HL2, HR, HC⟩
  iapplyF (st_dsend m K c 5 24 (by decide) _ _ (Nc_eq 0) _ (dsend_sem 5))
  rw [dsend_ring m c 5 4 rfl]
  iintro ⟨HO, VD, HE⟩
  iapplyF (st_swap m K c 4 4 5 rfl rfl _ (dev_of c 7 (k0_dev25_lt c) (k0_dev25_eq c)) _ credit_sem 24 rfl (by decide) 0 rfl 4 5 rfl rfl)
  iintro ⟨HO, HP, HD⟩
  iapply (wpc_ret c)
  iapply Hk
  iframe

/-- Ring step 6; block 12 is sent. -/
theorem part23 (v2 : BitVec 32) {Q : _ → sProp 𝕄} :
    iprop(ctx m K c ∗ rOpen c ∗ owe c 25 ∗ tD c 6 ∗ (commAt m c 5 fullShare.left ∗ commAt m c 5 fullShare.right) ∗ dstC c 0 ∗ pCr c 5 ∗ (pO c 0 5 ∗ cO c 10 ∗ tO c 12))
      ⊢ iprop((∀ v, (owe c 26 ∗ cDs c 6 ∗ commAt m c 5 fullShare.left ∗ pCr c 5 ∗ (pO c 0 6 ∗ outDone m c 10 ∗ cO c 12)) -∗ Q ⟨v, k0_pay24 (ldC m c 5 1)⟩)
        -∗ wpc c (k0_part23 (F := F) eM h0 sM h1 oM h2 commB h3 statB h4 stageB h5 cc0_scratch3 cc0_scratch4 cc0_scratch5 cc0_scratch6 cc0_scratch7 cc0_scratch8 c v2 (invV m c)) Q) := by
  rw [k0_part23_eq_skeleton]
  simp only [k0_part23_skel, Prog.lift, Prog.bind_op, Prog.bind_ret, bind_pure_comp, map_op, map_ret]
  iintro ⟨#Hc, #Hr, HO, T, ⟨HL, HR⟩, HD, HP, G0, C0, T0⟩ Hk
  iapplyF (st_pass m K c 6 5 rfl _ (dev_of c 1 (k0_dev26_lt c) (k0_dev26_eq c)) _ _ rfl rfl _ _ (dsend_sem 6) (drecv_sem 6) 25 rfl 0 rfl 5 rfl)
  iintro ⟨HO, CD, HP⟩
  iapplyF (st_ldC m c 5 0 _ rfl)
  iintro HL
  iapplyF (st_turn m K c 10 12 rfl _ _ No_of _ (osem_sem 0) 26 5 6 rfl rfl 0 rfl (by decide) _ rfl _ rfl _ (pay_ring m c 5 0 12 rfl rfl))
  iintro ⟨HO, G0, Z10, F12⟩
  iapplyF (st_out m K c 12 _ rfl _ (outV_of c 12 (out_off c 1 0 12 rfl rfl)) _ (osem_sem 0) 6 rfl 0 rfl)
  iintro ⟨Y12, G0⟩
  iapplyF (st_ldC m c 5 1 _ rfl)
  iintro HL
  dsimp only
  iapply (wpc_ret c)
  iapply Hk
  iframe

/-- Block 13 is sent; ring step 6 has landed. -/
theorem part24 (v7 v602 : BitVec 32) {Q : _ → sProp 𝕄} :
    iprop(ctx m K c ∗ owe c 26 ∗ (pO c 1 5 ∗ cO c 11 ∗ tO c 13) ∗ wDr c 6)
      ⊢ iprop((∀ v, (owe c 26 ∗ (pO c 1 6 ∗ outDone m c 11 ∗ cO c 13) ∗ semVal (drecvC c 6) 0 ∗ (commAt m c 6 fullShare.left ∗ commAt m c 6 fullShare.right) ∗ rCredit c 6) -∗ Q v)
        -∗ wpc c (k0_part24 (F := F) eM h0 sM h1 oM h2 commB h3 statB h4 stageB h5 cc0_scratch3 cc0_scratch4 cc0_scratch5 cc0_scratch6 cc0_scratch7 cc0_scratch8 c v7 (invV m c) v602 (k0_pay24 (ldC m c 5 1))) Q) := by
  rw [k0_part24_eq_skeleton]
  simp only [k0_part24_skel, Prog.lift, Prog.bind_op, Prog.bind_ret, bind_pure_comp, map_op, map_ret]
  iintro ⟨#Hc, HO, ⟨G1, C1, T1⟩, W⟩ Hk
  iapplyF (st_turn m K c 11 13 rfl _ _ No_of _ (osem_sem 1) 26 5 6 rfl rfl 1 rfl (by decide) _ rfl _ rfl _ (pay_ring m c 5 1 13 rfl rfl))
  iintro ⟨HO, G1, Z11, F13⟩
  iapplyF (st_out m K c 13 _ rfl _ (outV_of c 13 (out_off c 1 1 13 rfl rfl)) _ (osem_sem 1) 6 rfl 1 rfl)
  iintro ⟨Y13, G1⟩
  iapplyF (st_drecv m K c 6 26 (by decide) _ _ (Nc_eq 0) _ (drecv_sem 6))
  unfold gotC
  iintro ⟨HO, VR, HL, HR, HC⟩
  iapply (wpc_ret c)
  iapply Hk
  iframe

/-- Ring step 6 has left; block 14 is sent. -/
theorem part25 (v2 : BitVec 32) {Q : _ → sProp 𝕄} :
    iprop(ctx m K c ∗ owe c 26 ∗ (wDs c 6 ∗ cDs c 6) ∗ commAt m c 6 fullShare.left ∗ (pO c 0 6 ∗ cO c 12 ∗ tO c 14))
      ⊢ iprop((∀ v, (owe c 26 ∗ semVal (dsendC c 6) 0 ∗ commAt m c 5 fullShare.right ∗ commAt m c 6 fullShare.left ∗ (pO c 0 7 ∗ outDone m c 12 ∗ cO c 14)) -∗ Q ⟨v, ldC m c 6 1⟩)
        -∗ wpc c (k0_part25 (F := F) eM h0 sM h1 oM h2 commB h3 statB h4 stageB h5 cc0_scratch3 cc0_scratch4 cc0_scratch5 cc0_scratch6 cc0_scratch7 cc0_scratch8 c v2 (invV m c)) Q) := by
  rw [k0_part25_eq_skeleton]
  simp only [k0_part25_skel, Prog.lift, Prog.bind_op, Prog.bind_ret, bind_pure_comp, map_op, map_ret]
  iintro ⟨#Hc, HO, ⟨X, Y⟩, HL, G0, C0, T0⟩ Hk
  iapplyF (st_dsend m K c 6 26 (by decide) _ _ (Nc_eq 1) _ (dsend_sem 6))
  rw [dsend_ring m c 6 5 rfl]
  iintro ⟨HO, VD, HE⟩
  iapplyF (st_ldC m c 6 0 _ rfl)
  iintro HL
  iapplyF (st_turn m K c 12 14 rfl _ _ No_of _ (osem_sem 0) 26 6 7 rfl rfl 0 rfl (by decide) _ rfl _ rfl _ (pay_ring m c 6 0 14 rfl rfl))
  iintro ⟨HO, G0, Z12, F14⟩
  iapplyF (st_out m K c 14 _ rfl _ (outV_of c 14 (out_off c 0 0 14 rfl rfl)) _ (osem_sem 0) 7 rfl 0 rfl)
  iintro ⟨Y14, G0⟩
  iapplyF (st_ldC m c 6 1 _ rfl)
  iintro HL
  iapply (wpc_ret c)
  iapply Hk
  iframe

end Parts

end Cert.KernelIdeal.Ring

end
-- ==== Proof.IdealBody.lean ====
/-
  The kernel's body, whole.
-/
module

public import proofs.«01_k».proof.Proof.IdealPartsB

@[expose] public section

noncomputable section

namespace Cert.KernelIdeal.Ring

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig ℕ (Elt F) ℕ UU ℕ

variable (m : (ℓ : Loc nD τ sig) → Buf (Elt F) ℓ)

theorem big2 (Φ : Fin 2 → sProp 𝕄) : bigSep Finset.univ Φ = iprop(Φ 0 ∗ Φ 1) :=
  (bigSep_univ_eq_bigSepL [0, 1] (by decide) (by decide) Φ).trans rfl
theorem big5 (Φ : Fin 5 → sProp 𝕄) : bigSep Finset.univ Φ = iprop(Φ 0 ∗ Φ 1 ∗ Φ 2 ∗ Φ 3 ∗ Φ 4) :=
  (bigSep_univ_eq_bigSepL [0, 1, 2, 3, 4] (by decide) (by decide) Φ).trans rfl
theorem big7 (Φ : Fin 7 → sProp 𝕄) : bigSep Finset.univ Φ = iprop(Φ 0 ∗ Φ 1 ∗ Φ 2 ∗ Φ 3 ∗ Φ 4 ∗ Φ 5 ∗ Φ 6) :=
  (bigSep_univ_eq_bigSepL [0, 1, 2, 3, 4, 5, 6] (by decide) (by decide) Φ).trans rfl
theorem big16 (Φ : Fin 16 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  (bigSep_univ_eq_bigSepL [0, 1, 2, 3, 4, 5, 6, 7, 8, 9, 10, 11, 12, 13, 14, 15] (by decide) (by decide) Φ).trans rfl

section Body

variable (K : GSem nD τ sig → ℕ) (c : Dev nD)

theorem wpc_bind {α β : Type} (p : Prog (TpuEff nD τ sig (Elt F) Λ₀ (c : Thread nD τ).2) α)
    (k : α → Prog (TpuEff nD τ sig (Elt F) Λ₀ (c : Thread nD τ).2) β) {Q : β → sProp 𝕄} :
    wpc c p (fun a => wpc c (k a) Q) ⊢ wpc c (p >>= k) Q := Entails.of_eq (wp_bind _ _ _ p k Q).symm

/-- What the barrier and the statistics take. -/
def preA (c : Dev nD) : sProp 𝕄 :=
  iprop(owe c 0 ∗ bigSep Finset.univ (tBar c) ∗ wBar c ∗ bigSep Finset.univ (tSt c) ∗ bigSep Finset.univ (wSr c) ∗ bigSep Finset.univ (wSs c)
    ∗ bigSep Finset.univ (statAny c) ∗ bigSep Finset.univ (commAny c) ∗ sPts m c fullShare)
/-- What the ring and the output take. -/
def preB (c : Dev nD) : sProp 𝕄 :=
  iprop(bigSep Finset.univ (tD c) ∗ bigSep Finset.univ (wDr c) ∗ bigSep Finset.univ (wDs c) ∗ bigSep Finset.univ (tCr c) ∗ bigSep Finset.univ (wCr c)
    ∗ pCr c 0 ∗ bigSep Finset.univ (tO c) ∗ bigSep Finset.univ (fun sl => pO c sl 0) ∗ bigSep Finset.univ (stageAny c) ∗ ePts m c fullShare)

/-- What the barrier and the statistics leave. -/
def postA (c : Dev nD) : sProp 𝕄 :=
  iprop((bigSep Finset.univ fun j => semVal (ssendC c j) 0) ∗ (bigSep Finset.univ fun j => semVal (srecvC c j) 0)
    ∗ bigSep Finset.univ (statAny c) ∗ sPts m c fullShare)
/-- What the ring and the output leave. -/
def postB (c : Dev nD) : sProp 𝕄 :=
  iprop((bigSep Finset.univ fun h => semVal (dsendC c h) 0) ∗ (bigSep Finset.univ fun h => semVal (drecvC c h) 0)
    ∗ pCr c 5 ∗ bigSep Finset.univ (fun sl => pO c sl 8) ∗ bigSep Finset.univ (outDone m c) ∗ bigSep Finset.univ (stageAny c)
    ∗ bigSep Finset.univ (commAny c) ∗ ePts m c fullShare)

theorem stat_any (j : Fin 7) : statAt m c j ⊢ statAny c j := by
  unfold statAt statAny
  iintro H; iexists _; iexact H

theorem s_join : iprop(sPts m c (shK 7) ∗ sPts m c (shS (6 : Fin 7).val) ∗ sPts m c (shS (5 : Fin 7).val) ∗ sPts m c (shS (4 : Fin 7).val) ∗ sPts m c (shS (3 : Fin 7).val)
      ∗ sPts m c (shS (2 : Fin 7).val) ∗ sPts m c (shS (1 : Fin 7).val) ∗ sPts m c (shS (0 : Fin 7).val)) ⊢ sPts m c fullShare := by
  iintro ⟨H, H6, H5, H4, H3, H2, H1, H0⟩
  ihave H := (sPts_join m c 6) $$ [H H6]
  · isplitl [H]; · iexact H
    iexact H6
  ihave H := (sPts_join m c 5) $$ [H H5]
  · isplitl [H]; · iexact H
    iexact H5
  ihave H := (sPts_join m c 4) $$ [H H4]
  · isplitl [H]; · iexact H
    iexact H4
  ihave H := (sPts_join m c 3) $$ [H H3]
  · isplitl [H]; · iexact H
    iexact H3
  ihave H := (sPts_join m c 2) $$ [H H2]
  · isplitl [H]; · iexact H
    iexact H2
  ihave H := (sPts_join m c 1) $$ [H H1]
  · isplitl [H]; · iexact H
    iexact H1
  iapply (sPts_join m c 0)
  isplitl [H]; · iexact H
  iexact H0

theorem packA : iprop(((semVal (ssendC c 0) 0 ∗ sPts m c (shS (0 : Fin 7).val)) ∗ (semVal (ssendC c 1) 0 ∗ sPts m c (shS (1 : Fin 7).val)) ∗ (semVal (ssendC c 2) 0 ∗ sPts m c (shS (2 : Fin 7).val))
        ∗ (semVal (ssendC c 3) 0 ∗ sPts m c (shS (3 : Fin 7).val)) ∗ (semVal (ssendC c 4) 0 ∗ sPts m c (shS (4 : Fin 7).val)) ∗ (semVal (ssendC c 5) 0 ∗ sPts m c (shS (5 : Fin 7).val))
        ∗ (semVal (ssendC c 6) 0 ∗ sPts m c (shS (6 : Fin 7).val)))
      ∗ ((semVal (srecvC c 0) 0 ∗ statAt m c 0) ∗ (semVal (srecvC c 1) 0 ∗ statAt m c 1) ∗ (semVal (srecvC c 2) 0 ∗ statAt m c 2) ∗ (semVal (srecvC c 3) 0 ∗ statAt m c 3)
        ∗ (semVal (srecvC c 4) 0 ∗ statAt m c 4) ∗ (semVal (srecvC c 5) 0 ∗ statAt m c 5) ∗ (semVal (srecvC c 6) 0 ∗ statAt m c 6))
      ∗ sPts m c (shK 7)) ⊢ postA m c := by
  unfold postA
  rw [big7, big7, big7]
  iintro ⟨⟨⟨V0, A0⟩, ⟨V1, A1⟩, ⟨V2, A2⟩, ⟨V3, A3⟩, ⟨V4, A4⟩, ⟨V5, A5⟩, V6, A6⟩, ⟨⟨U0, B0⟩, ⟨U1, B1⟩, ⟨U2, B2⟩, ⟨U3, B3⟩, ⟨U4, B4⟩, ⟨U5, B5⟩, U6, B6⟩, H⟩
  ihave H := (s_join m c) $$ [H A0 A1 A2 A3 A4 A5 A6]
  · isplitl [H]; · iexact H
    isplitl [A6]; · iexact A6
    isplitl [A5]; · iexact A5
    isplitl [A4]; · iexact A4
    isplitl [A3]; · iexact A3
    isplitl [A2]; · iexact A2
    isplitl [A1]; · iexact A1
    iexact A0
  ihave B0 := (stat_any m c 0) $$ B0
  ihave B1 := (stat_any m c 1) $$ B1
  ihave B2 := (stat_any m c 2) $$ B2
  ihave B3 := (stat_any m c 3) $$ B3
  ihave B4 := (stat_any m c 4) $$ B4
  ihave B5 := (stat_any m c 5) $$ B5
  ihave B6 := (stat_any m c 6) $$ B6
  iframe

variable (h0 : eM.IsWhole) (h1 : sM.IsWhole) (h2 : oM.IsWhole) (h3 : commB.IsWhole) (h4 : statB.IsWhole) (h5 : stageB.IsWhole)

set_option maxHeartbeats 4000000 in
theorem body_wp {Q : PUnit → sProp 𝕄} :
    iprop(ctx m K c ∗ preA m c ∗ preB m c)
      ⊢ iprop(((owe c 26 ∗ semVal (barC c) 0 ∗ postA m c ∗ postB m c) -∗ Q ⟨⟩)
        -∗ wpc c (cc0_body (F := F) eM h0 sM h1 oM h2 commB h3 statB h4 stageB h5 cc0_scratch3 cc0_scratch4 cc0_scratch5 cc0_scratch6 cc0_scratch7 cc0_scratch8) Q) := by
  rw [cc0_body_eq_skeleton]
  unfold cc0_body_skel
  rw [k0_part26_eq_skeleton]
  unfold k0_part26_skel
  simp only [preA, big7, big2]
  iintro ⟨#Hc, ⟨HO, ⟨B0, B1, B2, B3, B4, B5, B6⟩, WB, ⟨T0, T1, T2, T3, T4, T5, T6⟩, ⟨R0, R1, R2, R3, R4, R5, R6⟩, ⟨S0, S1, S2, S3, S4, S5, S6⟩, ⟨A0, A1, A2, A3, A4, A5, A6⟩, ⟨C0, C1⟩, HS⟩, HB⟩ Hk
  unfold preB
  icases HB with ⟨HD, HR, HX, HT, HW, HP, HO2, HG, HF, HE⟩
  ihave HD := (Entails.of_eq (big7 _)) $$ HD
  icases HD with ⟨D0, D1, D2, D3, D4, D5, D6⟩
  ihave HE := (ePts_split m c) $$ HE
  icases HE with ⟨EL, ER⟩
  iapply (wpc_bind c)
  iapply (wpc_bind c)
  iapplyF (part1 m K c h0 h1 h2 h3 h4 h5)
  iintro %v2 %v5 %v7 %v25 %v HO
  dsimp only
  iapply (wpc_bind c)
  iapplyF (part2 m K c h0 h1 h2 h3 h4 h5)
  iintro %v46 ⟨HO, VB, CD, ⟨S0, S1, S2, S3, S4, S5, S6⟩, C1, #HN⟩
  iapply (wpc_bind c)
  iapplyF (part3 m K c h0 h1 h2 h3 h4 h5)
  iintro %w3 ⟨HO, ⟨A0, A1, A2⟩, HS⟩
  obtain ⟨v56, v66, v76⟩ := w3
  dsimp only
  iapply (wpc_bind c)
  iapplyF (part4 m K c h0 h1 h2 h3 h4 h5)
  iintro %w4 ⟨HO, ⟨A3, A4, A5⟩, HS⟩
  obtain ⟨v86, v96, v106⟩ := w4
  dsimp only
  iapply (wpc_bind c)
  iapplyF (part5 m K c h0 h1 h2 h3 h4 h5)
  iintro ⟨HO, A6, HS, R0, R1⟩
  iapply (wpc_bind c)
  iapplyF (part6 m K c h0 h1 h2 h3 h4 h5)
  iintro ⟨HO, R2, R3, R4⟩
  iapply (wpc_bind c)
  iapplyF (part7 m K c h0 h1 h2 h3 h4 h5)
  iintro ⟨HO, R5, R6, U0, U1⟩
  iapply (wpc_bind c)
  iapplyF (part8 m K c h0 h1 h2 h3 h4 h5)
  iintro %v216 ⟨HO, U2, U3, U4, U5, U6, EL⟩
  dsimp only
  ihave HA := (packA m c) $$ [U0 U1 U2 U3 U4 U5 U6 R0 R1 R2 R3 R4 R5 R6 HS]
  · iframe
  ihave HF := (Entails.of_eq (big2 _)) $$ HF
  icases HF with ⟨F0, F1⟩
  ihave HG := (Entails.of_eq (big2 _)) $$ HG
  icases HG with ⟨G0, G1⟩
  ihave HO2 := (Entails.of_eq (big16 _)) $$ HO2
  icases HO2 with ⟨O0, O1, O2, O3, O4, O5, O6, O7, O8, O9, O10, O11, O12, O13, O14, O15⟩
  iapply (wpc_bind c)
  iapplyF (part9 m K c h0 h1 h2 h3 h4 h5)
  iintro %_ ⟨⟨Y0, G0⟩, ⟨Y1, G1⟩, EL⟩
  ihave HR := (Entails.of_eq (big7 _)) $$ HR
  icases HR with ⟨R0, R1, R2, R3, R4, R5, R6⟩
  ihave HX := (Entails.of_eq (big7 _)) $$ HX
  icases HX with ⟨X0, X1, X2, X3, X4, X5, X6⟩
  ihave HT := (Entails.of_eq (big5 _)) $$ HT
  icases HT with ⟨T0, T1, T2, T3, T4⟩
  ihave HW := (Entails.of_eq (big5 _)) $$ HW
  icases HW with ⟨W0, W1, W2, W3, W4⟩
  iapply (wpc_bind c)
  iapplyF (part10 m K c h0 h1 h2 h3 h4 h5)
  iintro %v262 ⟨HO, ⟨R0, X0⟩, ER, CD, ML, HP⟩
  ihave HE := (ePts_join m c) $$ [EL ER]
  · isplitl [EL] <;> iassumption
  dsimp only
  iapply (wpc_bind c)
  iapplyF (part11 m K c h0 h1 h2 h3 h4 h5)
  iintro %_ ⟨HO, ⟨G0, Z0, Y0⟩, ⟨G1, Z1, S⟩, ML⟩
  iapply (wpc_bind c)
  iapplyF (part12 m K c h0 h1 h2 h3 h4 h5)
  iintro %_ ⟨HO, ⟨Y1, G1⟩, ⟨R1, X1⟩, ⟨ML, MR⟩, HP, CN⟩
  iapply (wpc_bind c)
  iapplyF (part13 m K c h0 h1 h2 h3 h4 h5)
  iintro %v330 %v' ⟨HO, CD, ML, HP, G0, Z2, Y0⟩
  dsimp only
  iapply (wpc_bind c)
  iapplyF (part14 m K c h0 h1 h2 h3 h4 h5)
  iintro %_ ⟨HO, ⟨G1, Z3, Y1⟩, R2, MM, HC⟩
  iapply (wpc_bind c)
  iapplyF (part15 m K c h0 h1 h2 h3 h4 h5)
  iintro %v398 ⟨HO, X2, HP, CD, ML⟩
  dsimp only
  iapply (wpc_bind c)
  iapplyF (part16 m K c h0 h1 h2 h3 h4 h5)
  iintro %_ ⟨HO, ⟨G0, Z4, Y0⟩, ⟨G1, Z5, S⟩, ML⟩
  iapply (wpc_bind c)
  iapplyF (part17 m K c h0 h1 h2 h3 h4 h5)
  iintro %_ ⟨HO, ⟨Y1, G1⟩, ⟨R3, X3⟩, ⟨ML, MR⟩, HP, CN⟩
  iapply (wpc_bind c)
  iapplyF (part18 m K c h0 h1 h2 h3 h4 h5)
  iintro %v466 ⟨HO, CD, ML, HP, G0, Z6, Y0⟩
  dsimp only
  iapply (wpc_bind c)
  iapplyF (part19 m K c h0 h1 h2 h3 h4 h5)
  iintro %_ ⟨HO, ⟨G1, Z7, Y1⟩, R4, MM, HC⟩
  iapply (wpc_bind c)
  iapplyF (part20 m K c h0 h1 h2 h3 h4 h5)
  iintro %v534 ⟨HO, X4, HP, CD, ML⟩
  dsimp only
  iapply (wpc_bind c)
  iapplyF (part21 m K c h0 h1 h2 h3 h4 h5)
  iintro %_ ⟨HO, ⟨G0, Z8, Y0⟩, ⟨G1, Z9, S⟩, ML⟩
  iapply (wpc_bind c)
  iapplyF (part22 m K c h0 h1 h2 h3 h4 h5)
  iintro %_ ⟨HO, ⟨Y1, G1⟩, ⟨R5, X5⟩, ⟨ML, MR⟩, HP, CN⟩
  iapply (wpc_bind c)
  iapplyF (part23 m K c h0 h1 h2 h3 h4 h5)
  iintro %v602 ⟨HO, CD, ML, HP, G0, Z10, Y0⟩
  dsimp only
  iapply (wpc_bind c)
  iapplyF (part24 m K c h0 h1 h2 h3 h4 h5)
  iintro %_ ⟨HO, ⟨G1, Z11, Y1⟩, R6, ⟨NL, NR⟩, HC⟩
  iapply (wpc_bind c)
  iapplyF (part25 m K c h0 h1 h2 h3 h4 h5)
  iintro %v658 ⟨HO, X6, MR, NL, G0, Z12, Y0⟩
  dsimp only
  simp only [Prog.lift, Prog.bind_op, Prog.bind_ret]
  iapplyF (st_turn m K c 13 15 rfl _ _ No_of _ (osem_sem 1) 26 6 7 rfl rfl 1 rfl (by decide) _ rfl _ rfl _ (pay_ring m c 6 1 15 rfl rfl))
  iintro ⟨HO, G1, Z13, S⟩
  iapply (wpc_ret c)
  iapplyF (st_out m K c 15 _ rfl _ (outV_of c 15 (out_off c 0 1 15 rfl rfl)) _ (osem_sem 1) 7 rfl 1 rfl)
  iintro ⟨Y1, G1⟩
  iapplyF (st_owait m K c 14 _ _ No_of _ (osem_sem 0) 26 7 8 rfl rfl 0 rfl (by decide))
  iintro ⟨HO, G0, Z14, F0⟩
  iapplyF (st_owait m K c 15 _ _ No_of _ (osem_sem 1) 26 7 8 rfl rfl 1 rfl (by decide))
  iintro ⟨HO, G1, Z15, F1⟩
  iapply (wpc_ret c)
  iapply Hk
  ihave M1 := (commAt_join m c 5) $$ [ML MR]
  · isplitl [ML] <;> iassumption
  ihave M1 := (commAt_any m c 5 1 rfl) $$ M1
  ihave M0 := (commAt_join m c 6) $$ [NL NR]
  · isplitl [NL] <;> iassumption
  ihave M0 := (commAt_any m c 6 0 rfl) $$ M0
  unfold postB
  rw [big7, big7, big2, big2, big2, big16]
  iframe

end Body

end Cert.KernelIdeal.Ring

end
-- ==== Proof.IdealMem.lean ====
module

public import proofs.«01_k».proof.Proof.IdealBody

@[expose] public section

noncomputable section

namespace Cert.KernelIdeal.Ring

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig ℕ (Elt F) ℕ UU ℕ

variable (m : (ℓ : Loc nD τ sig) → Buf (Elt F) ℓ)

variable (c : Dev nD)

/-! ## Buffers held whole and piece by piece -/

/-- The sets of a buffer's slots. -/
abbrev commI (c : Dev nD) (sl : Fin 2) : Finset (Idx ((c : Thread nD τ).loc cc0_scratch0)) := (commV sl).view.set
abbrev statI (c : Dev nD) (j : Fin 7) : Finset (Idx ((c : Thread nD τ).loc cc0_scratch1)) := (statV j).view.set
abbrev stageI (c : Dev nD) (sl : Fin 2) : Finset (Idx ((c : Thread nD τ).loc cc0_scratch2)) := (stageV sl).view.set
abbrev outI (c : Dev nD) (n : Fin 16) : Finset (Idx ((c : Thread nD τ).loc main_v7)) := (outV c n).view.set

theorem comm_set (sl : Fin 2) : commI c sl = (Rect.unit (s := S2x512x8192) ![sl.val, 0, 0] S1x512x8192.size (inbC sl)).set :=
  (View.set_reshape _ _).trans (View.set_slice_whole _ _)
theorem stat_set (j : Fin 7) : statI c j = (Rect.unit (s := S7x512x128) ![j.val, 0, 0] S1x512x128.size (inbT j)).set :=
  (View.set_reshape _ _).trans (View.set_slice_whole _ _)
theorem stage_set (sl : Fin 2) : stageI c sl = (Rect.unit (s := S2x512x4096) ![sl.val, 0, 0] S1x512x4096.size (inbG sl)).set :=
  (View.set_reshape _ _).trans (View.set_slice_whole _ _)
theorem out_set (n : Fin 16) : outI c n = (Rect.unit (s := S512x65536) (oOff c n.val) S512x4096.size (inbO c n)).set :=
  View.set_slice_whole _ _

theorem comm_disj (b b' : Fin 2) (h : b ≠ b') : Disjoint (commI c b) (commI c b') := by
  rw [comm_set, comm_set]
  exact Idealize.ShloMosaic.Ring.lead_disjoint (s := S2x512x8192) 0 1 (fun b => ![b.val, 0, 0]) S1x512x8192.size inbC (fun b => (Nat.one_mul _).symm) rfl b b' h
theorem stat_disj (b b' : Fin 7) (h : b ≠ b') : Disjoint (statI c b) (statI c b') := by
  rw [stat_set, stat_set]
  exact Idealize.ShloMosaic.Ring.lead_disjoint (s := S7x512x128) 0 1 (fun b => ![b.val, 0, 0]) S1x512x128.size inbT (fun b => (Nat.one_mul _).symm) rfl b b' h
theorem stage_disj (b b' : Fin 2) (h : b ≠ b') : Disjoint (stageI c b) (stageI c b') := by
  rw [stage_set, stage_set]
  exact Idealize.ShloMosaic.Ring.lead_disjoint (s := S2x512x4096) 0 1 (fun b => ![b.val, 0, 0]) S1x512x4096.size inbG (fun b => (Nat.one_mul _).symm) rfl b b' h

theorem comm_cover : Finset.univ.biUnion (commI c) = Finset.univ := by
  rw [show commI c = _ from funext (comm_set c)]
  exact Idealize.ShloMosaic.Ring.lead_cover (s := S2x512x8192) 0 1 (fun b => ![b.val, 0, 0]) S1x512x8192.size inbC (fun b => (Nat.one_mul _).symm) (by decide) rfl (by decide) rfl
theorem stat_cover : Finset.univ.biUnion (statI c) = Finset.univ := by
  rw [show statI c = _ from funext (stat_set c)]
  exact Idealize.ShloMosaic.Ring.lead_cover (s := S7x512x128) 0 1 (fun b => ![b.val, 0, 0]) S1x512x128.size inbT (fun b => (Nat.one_mul _).symm) (by decide) rfl (by decide) rfl
theorem stage_cover : Finset.univ.biUnion (stageI c) = Finset.univ := by
  rw [show stageI c = _ from funext (stage_set c)]
  exact Idealize.ShloMosaic.Ring.lead_cover (s := S2x512x4096) 0 1 (fun b => ![b.val, 0, 0]) S1x512x4096.size inbG (fun b => (Nat.one_mul _).symm) (by decide) rfl (by decide) rfl

/-- A cell of the result lies in block `n` exactly if `n` is the block of its column. -/
theorem mem_out (n : Fin 16) (i : S512x65536.Idx) : i ∈ (Rect.unit (s := S512x65536) (oOff c n.val) S512x4096.size (inbO c n)).set ↔ blkOf c (i 1).val = n := by
  rw [Rect.mem_set_unit]
  have hc : c.val < 8 := c.isLt
  have hn := n.isLt
  have h0 : (i 0).val < 512 := (i 0).isLt
  have h1 : (i 1).val < 65536 := (i 1).isLt
  have hv : (blkOf c (i 1).val = n) ↔ 2 * ((c.val + 8 - (i 1).val / 8192) % 8) + ((i 1).val / 4096) % 2 = n.val := Fin.ext_iff
  rw [hv]
  constructor
  · intro h
    have h := h 1
    have ha : 8192 * ((c.val + (15 - n.val) / 2 + 1) % 8) + 4096 * (n.val % 2) ≤ (i 1).val := h.1
    have hb : (i 1).val < 8192 * ((c.val + (15 - n.val) / 2 + 1) % 8) + 4096 * (n.val % 2) + 4096 := h.2
    have e1 : (i 1).val / 8192 = (c.val + (15 - n.val) / 2 + 1) % 8 := by omega
    have e2 : (i 1).val / 4096 % 2 = n.val % 2 := by omega
    rw [e1, e2]; omega
  · intro h a
    match a with
    | ⟨0, _⟩ => exact ⟨Nat.zero_le _, show (i 0).val < 0 + 512 by omega⟩
    | ⟨1, _⟩ =>
      refine ⟨show 8192 * ((c.val + (15 - n.val) / 2 + 1) % 8) + 4096 * (n.val % 2) ≤ (i 1).val from ?_,
        show (i 1).val < 8192 * ((c.val + (15 - n.val) / 2 + 1) % 8) + 4096 * (n.val % 2) + 4096 from ?_⟩
      all_goals
        have e1 : (c.val + (15 - n.val) / 2 + 1) % 8 = (i 1).val / 8192 := by omega
        have e2 : n.val % 2 = (i 1).val / 4096 % 2 := by omega
        rw [e1, e2]; omega

theorem out_disj (b b' : Fin 16) (h : b ≠ b') : Disjoint (outI c b) (outI c b') := by
  rw [out_set, out_set, Finset.disjoint_left]
  intro i hi hi'
  exact h (((mem_out c b i).mp hi).symm.trans ((mem_out c b' i).mp hi'))
theorem out_cover : Finset.univ.biUnion (outI c) = Finset.univ := by
  rw [show outI c = _ from funext (out_set c)]
  ext i
  simp only [Finset.mem_biUnion, Finset.mem_univ, true_and, iff_true]
  exact ⟨_, (mem_out c _ i).mpr rfl⟩

theorem comm_open (f : Buf (Elt F) ((c : Thread nD τ).loc cc0_scratch0)) :
    ((c : Thread nD τ).loc cc0_scratch0 ↦{fullShare} f : sProp 𝕄) ⊢ bigSep Finset.univ (commAny (F := F) c) := by
  rw [Idealize.ShloMosaic.Ring.pointsTo_blocks (commI c) (comm_disj c) (comm_cover c) f]
  have h (b) : ((c : Thread nD τ).loc cc0_scratch0 ↦[commI c b]{fullShare} f : sProp 𝕄) ⊢ commAny c b := by
    unfold commAny; iintro H; iexists f; iexact H
  exact bigSep_mono fun b _ => h b
theorem stat_open (f : Buf (Elt F) ((c : Thread nD τ).loc cc0_scratch1)) :
    ((c : Thread nD τ).loc cc0_scratch1 ↦{fullShare} f : sProp 𝕄) ⊢ bigSep Finset.univ (statAny (F := F) c) := by
  rw [Idealize.ShloMosaic.Ring.pointsTo_blocks (statI c) (stat_disj c) (stat_cover c) f]
  have h (b) : ((c : Thread nD τ).loc cc0_scratch1 ↦[statI c b]{fullShare} f : sProp 𝕄) ⊢ statAny c b := by
    unfold statAny; iintro H; iexists f; iexact H
  exact bigSep_mono fun b _ => h b
theorem stage_open (f : Buf (Elt F) ((c : Thread nD τ).loc cc0_scratch2)) :
    ((c : Thread nD τ).loc cc0_scratch2 ↦{fullShare} f : sProp 𝕄) ⊢ bigSep Finset.univ (stageAny (F := F) c) := by
  rw [Idealize.ShloMosaic.Ring.pointsTo_blocks (stageI c) (stage_disj c) (stage_cover c) f]
  have h (b) : ((c : Thread nD τ).loc cc0_scratch2 ↦[stageI c b]{fullShare} f : sProp 𝕄) ⊢ stageAny c b := by
    unfold stageAny; iintro H; iexists f; iexact H
  exact bigSep_mono fun b _ => h b
theorem out_open (f : Buf (Elt F) ((c : Thread nD τ).loc main_v7)) :
    ((c : Thread nD τ).loc main_v7 ↦{fullShare} f : sProp 𝕄) ⊢ bigSep Finset.univ (outAny (F := F) c) := by
  rw [Idealize.ShloMosaic.Ring.pointsTo_blocks (outI c) (out_disj c) (out_cover c) f]
  have h (b) : ((c : Thread nD τ).loc main_v7 ↦[outI c b]{fullShare} f : sProp 𝕄) ⊢ outAny c b := by
    unfold outAny; iintro H; iexists f; iexact H
  exact bigSep_mono fun b _ => h b

include m in
theorem comm_shut : bigSep Finset.univ (commAny (F := F) c) ⊢ (iprop(∃ f, (c : Thread nD τ).loc cc0_scratch0 ↦{fullShare} f) : sProp 𝕄) :=
  Idealize.ShloMosaic.Ring.pointsTo_blocks_join_exists (commI c) (comm_disj c) (comm_cover c) (commC m 0 c (landedC m c 0))
include m in
theorem stat_shut : bigSep Finset.univ (statAny (F := F) c) ⊢ (iprop(∃ f, (c : Thread nD τ).loc cc0_scratch1 ↦{fullShare} f) : sProp 𝕄) :=
  Idealize.ShloMosaic.Ring.pointsTo_blocks_join_exists (statI c) (stat_disj c) (stat_cover c) (statC m 0 c (landedS m c 0))
include m in
theorem stage_shut : bigSep Finset.univ (stageAny (F := F) c) ⊢ (iprop(∃ f, (c : Thread nD τ).loc cc0_scratch2 ↦{fullShare} f) : sProp 𝕄) :=
  Idealize.ShloMosaic.Ring.pointsTo_blocks_join_exists (stageI c) (stage_disj c) (stage_cover c) (stageC m c 0)
theorem out_shut : bigSep Finset.univ (outDone m c) ⊢ ((c : Thread nD τ).loc main_v7 ↦{fullShare} outF m c : sProp 𝕄) := by
  rw [Idealize.ShloMosaic.Ring.pointsTo_blocks (outI c) (out_disj c) (out_cover c) (outF m c)]
  exact Entails.rfl

/-! ## The semaphores, all and by purpose -/

theorem chain_assoc (A B C : sProp 𝕄) : iprop((A ∗ B) ∗ C) = iprop(A ∗ B ∗ C) := BI.equiv_iff.mp ⟨BI.sep_assoc, BI.sep_assoc'⟩

/-- What is held for every one of the kernel's semaphores, by purpose. -/
theorem sems_split (Φ : SemLoc sig → sProp 𝕄) :
    bigSep Finset.univ (fun k : Fin 31 => Φ (osem0 k))
      = iprop((bigSep Finset.univ fun h : Fin 7 => Φ (.dma (dsendS h))) ∗ (bigSep Finset.univ fun h : Fin 7 => Φ (.dma (drecvS h)))
        ∗ (bigSep Finset.univ fun h : Fin 7 => Φ (.dma (ssendS h))) ∗ (bigSep Finset.univ fun h : Fin 7 => Φ (.dma (srecvS h)))
        ∗ (bigSep Finset.univ fun sl : Fin 2 => Φ (.dma (osemS sl))) ∗ Φ (.reg creditS)) := by
  rw [big7, big7, big7, big7, big2, bigSep_univ_eq_bigSepL [0,1,2,3,4,5,6,7,8,9,10,11,12,13,14,15,16,17,18,19,20,21,22,23,24,25,26,27,28,29,30] (by decide) (by decide)]
  simp only [chain_assoc]
  rfl

end Cert.KernelIdeal.Ring

end
-- ==== Proof.IdealFund.lean ====
module

public import proofs.«01_k».proof.Proof.IdealMem

@[expose] public section

noncomputable section

namespace Cert.KernelIdeal.Ring

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig ℕ (Elt F) ℕ UU ℕ

variable (m : (ℓ : Loc nD τ sig) → Buf (Elt F) ℓ)

/-! ## The tokens: each dealt to the device that pays -/

/-- The token in row `i`, column `k`: how far to the right its cell's device is, its semaphore, its round and its duty. -/
def tokOf (i : Fin 8) (k : Fin 7) : ℕ × SemLoc sig × ℕ × Fin 7 :=
  match i with
  | 0 => (k.val + 1, .reg barS, 0, k)
  | 1 => (0, .dma (ssendS k), 0, 0)
  | 2 => (k.val + 1, .dma (srecvS k), 0, 0)
  | 3 => (0, .dma (dsendS k), 0, 0)
  | 4 => (1, .dma (drecvS k), 0, 0)
  | 5 => (0, .dma (osemS ⟨k.val % 2, Nat.mod_lt _ (by decide)⟩), k.val / 2, 0)
  | 6 => (0, .dma (osemS ⟨(k.val + 7) % 2, Nat.mod_lt _ (by decide)⟩), (k.val + 7) / 2, 0)
  | 7 => if k.val < 5 then (7, .reg creditS, k.val, 0) else (0, .dma (osemS ⟨(k.val + 9) % 2, Nat.mod_lt _ (by decide)⟩), (k.val + 9) / 2, 0)

theorem tokOf_inj : Function.Injective (fun x : Fin 8 × Fin 7 => (tokOf x.1 x.2).2) := by decide +kernel

theorem rt_inj (k : ℕ) (c d : Dev nD) (h : rt k c = rt k d) : c = d := by
  have h := congrArg Fin.val h
  have hc : c.val < 8 := c.isLt
  have hd : d.val < 8 := d.isLt
  have h : (c.val + k) % 8 = (d.val + k) % 8 := h
  exact Fin.ext (by omega)

def tokEmb : Dev nD × Fin 8 × Fin 7 ↪ GSem nD τ sig × ℕ × Fin 7 :=
  ⟨fun x => (((rt (tokOf x.2.1 x.2.2).1 x.1 : Thread nD τ), (tokOf x.2.1 x.2.2).2.1), (tokOf x.2.1 x.2.2).2.2), fun x y h => by
    have h2 : x.2 = y.2 := tokOf_inj (Prod.ext (congrArg (fun t : GSem nD τ sig × ℕ × Fin 7 => t.1.2) h)
      (congrArg (fun t : GSem nD τ sig × ℕ × Fin 7 => t.2) h))
    have h1 := congrArg (fun t : GSem nD τ sig × ℕ × Fin 7 => t.1.1.1) h
    dsimp only at h1
    rw [h2] at h1
    exact Prod.ext (rt_inj _ _ _ h1) h2⟩

def allToks : Finset (GSem nD τ sig × ℕ × Fin 7) := Finset.univ.map tokEmb

/-- The token at a place, as device `c` holds it. -/
def tokAt (c : Dev nD) (i : Fin 8) (k : Fin 7) : sProp 𝕄 :=
  dutyTok ER ((rt (tokOf i k).1 c : Thread nD τ), (tokOf i k).2.1) (tokOf i k).2.2.1 (tokOf i k).2.2.2

theorem allToks_eq : bigSep allToks (fun x => (dutyTok ER x.1 x.2.1 x.2.2 : sProp 𝕄))
    = bigSep Finset.univ fun c : Dev nD => bigSep Finset.univ fun i : Fin 8 => bigSep Finset.univ fun k : Fin 7 => tokAt c i k := by
  unfold allToks
  rw [bigSep_map, bigSep_univ_prod]
  refine bigSep_congr fun c _ => ?_
  rw [bigSep_univ_prod]
  rfl

theorem big8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- The token of the transfer of block `n`. -/
def oTok (c : Dev nD) (n : Fin 16) : sProp 𝕄 := dutyTok ER (osemC c (gSlot n)) (n.val / 2) 0

theorem row5 (c : Dev nD) : (bigSep Finset.univ fun k : Fin 7 => (tokAt c 5 k : sProp 𝕄))
    = iprop(oTok c 0 ∗ oTok c 1 ∗ oTok c 2 ∗ oTok c 3 ∗ oTok c 4 ∗ oTok c 5 ∗ oTok c 6) := by
  have h := (big7 (fun k : Fin 7 => (tokAt c 5 k : sProp 𝕄))).trans (show _ = iprop(oTok (rt 0 c) 0 ∗ oTok (rt 0 c) 1 ∗ oTok (rt 0 c) 2
    ∗ oTok (rt 0 c) 3 ∗ oTok (rt 0 c) 4 ∗ oTok (rt 0 c) 5 ∗ oTok (rt 0 c) 6) from rfl)
  rwa [rt_zero] at h
theorem row6 (c : Dev nD) : (bigSep Finset.univ fun k : Fin 7 => (tokAt c 6 k : sProp 𝕄))
    = iprop(oTok c 7 ∗ oTok c 8 ∗ oTok c 9 ∗ oTok c 10 ∗ oTok c 11 ∗ oTok c 12 ∗ oTok c 13) := by
  have h := (big7 (fun k : Fin 7 => (tokAt c 6 k : sProp 𝕄))).trans (show _ = iprop(oTok (rt 0 c) 7 ∗ oTok (rt 0 c) 8 ∗ oTok (rt 0 c) 9
    ∗ oTok (rt 0 c) 10 ∗ oTok (rt 0 c) 11 ∗ oTok (rt 0 c) 12 ∗ oTok (rt 0 c) 13) from rfl)
  rwa [rt_zero] at h
theorem row7 (c : Dev nD) : (bigSep Finset.univ fun k : Fin 7 => (tokAt c 7 k : sProp 𝕄))
    = iprop(tCr c 0 ∗ tCr c 1 ∗ tCr c 2 ∗ tCr c 3 ∗ tCr c 4 ∗ oTok c 14 ∗ oTok c 15) := by
  have h := (big7 (fun k : Fin 7 => (tokAt c 7 k : sProp 𝕄))).trans (show _ = iprop(tCr c 0 ∗ tCr c 1 ∗ tCr c 2
    ∗ tCr c 3 ∗ tCr c 4 ∗ oTok (rt 0 c) 14 ∗ oTok (rt 0 c) 15) from rfl)
  rwa [rt_zero] at h

/-- The tokens of a device, by what they pay. -/
theorem toks_rows (c : Dev nD) : (bigSep Finset.univ fun i : Fin 8 => bigSep Finset.univ fun k : Fin 7 => (tokAt c i k : sProp 𝕄))
    ⊢ iprop(bigSep Finset.univ (tBar (F := F) c) ∗ bigSep Finset.univ (tSt (F := F) c) ∗ bigSep Finset.univ (tD (F := F) c)
      ∗ bigSep Finset.univ (tCr (F := F) c) ∗ bigSep Finset.univ (oTok (F := F) c)) := by
  have e0 : (bigSep Finset.univ fun k : Fin 7 => (tokAt c 0 k : sProp 𝕄)) ⊢ bigSep Finset.univ (tBar (F := F) c) := Entails.rfl
  have e1 : iprop((bigSep Finset.univ fun k : Fin 7 => (tokAt c 1 k : sProp 𝕄)) ∗ (bigSep Finset.univ fun k : Fin 7 => (tokAt c 2 k : sProp 𝕄))) ⊢ bigSep Finset.univ (tSt (F := F) c) := by
    rw [← bigSep_sep']
    refine Entails.of_eq (bigSep_congr fun j _ => ?_)
    rw [show tSt c j = iprop(dutyTok ER (ssendC (rt 0 c) j) 0 0 ∗ dutyTok ER (srecvC (rt (j.val + 1) c) j) 0 0) by rw [rt_zero]; rfl]
    rfl
  have e2 : iprop((bigSep Finset.univ fun k : Fin 7 => (tokAt c 3 k : sProp 𝕄)) ∗ (bigSep Finset.univ fun k : Fin 7 => (tokAt c 4 k : sProp 𝕄))) ⊢ bigSep Finset.univ (tD (F := F) c) := by
    rw [← bigSep_sep']
    refine Entails.of_eq (bigSep_congr fun j _ => ?_)
    rw [show tD c j = iprop(dutyTok ER (dsendC (rt 0 c) j) 0 0 ∗ dutyTok ER (drecvC (rt 1 c) j) 0 0) by rw [rt_zero]; rfl]
    rfl
  have e3 : iprop((bigSep Finset.univ fun k : Fin 7 => (tokAt c 5 k : sProp 𝕄)) ∗ (bigSep Finset.univ fun k : Fin 7 => (tokAt c 6 k : sProp 𝕄))
        ∗ (bigSep Finset.univ fun k : Fin 7 => (tokAt c 7 k : sProp 𝕄)))
      ⊢ iprop(bigSep Finset.univ (tCr (F := F) c) ∗ bigSep Finset.univ (oTok (F := F) c)) := by
    rw [row5, row6, row7, big5, big16]
    iintro ⟨⟨H0, H1, H2, H3, H4, H5, H6⟩, ⟨H7, H8, H9, H10, H11, H12, H13⟩, ⟨C0, C1, C2, C3, C4, H14, H15⟩⟩
    isplitl [C0 C1 C2 C3 C4]
    · isplitl [C0]; · iexact C0
      isplitl [C1]; · iexact C1
      isplitl [C2]; · iexact C2
      isplitl [C3]; · iexact C3
      iexact C4
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  rw [big8]
  iintro ⟨H0, H1, H2, H3, H4, H5, H6, H7⟩
  isplitl [H0]; · iapply e0; iexact H0
  isplitl [H1 H2]
  · iapply e1; isplitl [H1]; · iexact H1
    iexact H2
  isplitl [H3 H4]
  · iapply e2; isplitl [H3]; · iexact H3
    iexact H4
  iapply e3
  isplitl [H5]; · iexact H5
  isplitl [H6]; · iexact H6
  iexact H7

/-! ## The credit dealt at launch -/

/-- The payments again: how far the paid device is, its semaphore, the round. -/
def duesT : List (ℕ × SemLoc sig × ℕ) :=
  [ (1, .reg barS, 0), (2, .reg barS, 0), (3, .reg barS, 0), (4, .reg barS, 0), (5, .reg barS, 0), (6, .reg barS, 0), (7, .reg barS, 0),
    (1, .dma (drecvS 0), 0),
    (1, .dma (srecvS 0), 0), (2, .dma (srecvS 1), 0), (3, .dma (srecvS 2), 0), (4, .dma (srecvS 3), 0), (5, .dma (srecvS 4), 0),
    (6, .dma (srecvS 5), 0), (7, .dma (srecvS 6), 0),
    (1, .dma (drecvS 1), 0), (7, .reg creditS, 0), (1, .dma (drecvS 2), 0), (7, .reg creditS, 1), (1, .dma (drecvS 3), 0),
    (7, .reg creditS, 2), (1, .dma (drecvS 4), 0), (7, .reg creditS, 3), (1, .dma (drecvS 5), 0), (7, .reg creditS, 4),
    (1, .dma (drecvS 6), 0) ]

def dueAt (d : Dev nD) (x : ℕ × SemLoc sig × ℕ) : GSem nD τ sig × ℕ × ℕ := (((rt x.1 d : Thread nD τ), x.2.1), x.2.2, amtK (kindOf x.2.1))
theorem dues_eq (d : Dev nD) : dues d = duesT.map (dueAt d) := rfl

/-- The rounds at which the payments reach a semaphore. -/
def roundsOf (l : List (ℕ × SemLoc sig × ℕ)) (sm : SemLoc sig) : List ℕ := (l.filter fun x => x.2.1 = sm).map fun x => x.2.2

theorem rt_hits (k : ℕ) (hk : k < 8) (c d : Dev nD) : c = rt k d ↔ d = rt (8 - k) c := by
  have hc : c.val < 8 := c.isLt
  have hd : d.val < 8 := d.isLt
  constructor
  · rintro rfl; exact Fin.ext (show d.val = ((d.val + k) % 8 + (8 - k)) % 8 by omega)
  · rintro rfl; exact Fin.ext (show c.val = ((c.val + (8 - k)) % 8 + k) % 8 by omega)

theorem sum_dues (l : List (ℕ × SemLoc sig × ℕ)) (hl : ∀ x ∈ l, x.1 < 8) (c : Dev nD) (sm : SemLoc sig) (i : ℕ) :
    ∑ d : Dev nD, owedL (l.map (dueAt d)) ((c : Thread nD τ), sm) i
      = ((roundsOf l sm).map fun r => Finsupp.single r (amtK (kindOf sm))).sum i := by
  induction l with
  | nil =>
    show ∑ d : Dev nD, (0 : ℕ) = 0
    exact Finset.sum_const_zero
  | cons x l ih =>
    have e (d : Dev nD) : owedL ((x :: l).map (dueAt d)) ((c : Thread nD τ), sm) i
        = owedL (l.map (dueAt d)) ((c : Thread nD τ), sm) i
          + if d = rt (8 - x.1) c then (if sm = x.2.1 ∧ i = x.2.2 then amtK (kindOf x.2.1) else 0) else 0 := by
      show owedL (l.map (dueAt d)) ((c : Thread nD τ), sm) i + tallyAt ((rt x.1 d : Thread nD τ), x.2.1) x.2.2 (amtK (kindOf x.2.1)) ((c : Thread nD τ), sm) i = _
      rw [tallyAt_apply]
      congr 1
      have hx := rt_hits x.1 (hl x List.mem_cons_self) c d
      by_cases hd : d = rt (8 - x.1) c
      · have hc := hx.mpr hd
        rw [if_pos hd]
        refine if_congr ⟨fun h => ⟨congrArg Prod.snd h.1, h.2⟩, fun h => ⟨?_, h.2⟩⟩ rfl rfl
        rw [← hc, h.1]
      · rw [if_neg hd, if_neg]
        intro h
        exact hd (hx.mp (congrArg (fun g : GSem nD τ sig => g.1.1) h.1))
    rw [Finset.sum_congr rfl fun d _ => e d, Finset.sum_add_distrib, ih fun y hy => hl y (List.mem_cons_of_mem _ hy),
      Finset.sum_ite_eq' Finset.univ (rt (8 - x.1) c) fun _ => _, if_pos (Finset.mem_univ _)]
    unfold roundsOf
    by_cases hs : x.2.1 = sm
    · rw [List.filter_cons_of_pos (by simpa using hs), List.map_cons, List.map_cons, List.sum_cons, Finsupp.add_apply, Nat.add_comm, Finsupp.single_apply]
      congr 1
      subst hs
      exact if_congr ⟨fun h => h.2.symm, fun h => ⟨rfl, h.symm⟩⟩ rfl rfl
    · rw [List.filter_cons_of_neg (by simpa using hs), if_neg (fun h => hs h.1.symm), Nat.add_zero]

def O₀ (c : Dev nD) : CellTallies nD τ sig ℕ := owed c 0

theorem launch_at (c : Dev nD) (sm : SemLoc sig) (rs : List ℕ) (h : roundsOf duesT sm = rs) :
    launchCredit (Pipeline.owing O₀) 0 ((c : Thread nD τ), sm) = (rs.map fun r => Finsupp.single r (amtK (kindOf sm))).sum := by
  subst h
  refine Finsupp.ext fun i => ?_
  rw [Pipeline.launchCredit_owing]
  exact sum_dues duesT (by decide +kernel) c sm i

theorem rounds_bar : roundsOf duesT (.reg barS) = [0, 0, 0, 0, 0, 0, 0] := by decide +kernel
theorem rounds_credit : roundsOf duesT (.reg creditS) = [0, 1, 2, 3, 4] := by decide +kernel
theorem rounds_drecv : ∀ h, roundsOf duesT (.dma (drecvS h)) = [0] := by decide +kernel
theorem rounds_srecv : ∀ h, roundsOf duesT (.dma (srecvS h)) = [0] := by decide +kernel

/-- What device `c`'s launch credit is made of. -/
def creds (c : Dev nD) : sProp 𝕄 :=
  iprop(cred (tallyAt (barC c) 0 7) ∗ (bigSep Finset.univ fun h : Fin 7 => cred (tallyAt (drecvC c h) 0 Nc))
    ∗ (bigSep Finset.univ fun h : Fin 7 => cred (tallyAt (srecvC c h) 0 Ns)) ∗ bigSep Finset.univ (wCr (F := F) c))

theorem creds_intro (c : Dev nD) : (Pipeline.launchCred O₀ c : sProp 𝕄) ⊢ creds c := by
  have hb : tallyOn (barC c) (launchCredit (Pipeline.owing O₀) 0 (barC c)) = (tallyAt (barC c) 0 7 : CellTallies nD τ sig ℕ) := by
    rw [launch_at c _ _ rounds_bar, show amtK (kindOf (.reg barS)) = 1 from rfl]
    unfold tallyAt
    refine congrArg _ ?_
    simp only [List.map_cons, List.map_nil, List.sum_cons, List.sum_nil, ← Finsupp.single_add, add_zero]
    rfl
  have hd (h : Fin 7) : (cred (tallyOn (drecvC c h) (launchCredit (Pipeline.owing O₀) 0 (drecvC c h))) : sProp 𝕄) ⊢ cred (tallyAt (drecvC c h) 0 Nc) := by
    rw [launch_at c _ _ (rounds_drecv h), show amtK (kindOf (.dma (drecvS h))) = Nc by rw [kind_drecv]; rfl, List.map_cons, List.map_nil, List.sum_cons, List.sum_nil, add_zero]
    exact Entails.rfl
  have hs (h : Fin 7) : (cred (tallyOn (srecvC c h) (launchCredit (Pipeline.owing O₀) 0 (srecvC c h))) : sProp 𝕄) ⊢ cred (tallyAt (srecvC c h) 0 Ns) := by
    rw [launch_at c _ _ (rounds_srecv h), show amtK (kindOf (.dma (srecvS h))) = Ns by rw [kind_srecv]; rfl, List.map_cons, List.map_nil, List.sum_cons, List.sum_nil, add_zero]
    exact Entails.rfl
  have hc : (cred (tallyOn (creditC c) (launchCredit (Pipeline.owing O₀) 0 (creditC c))) : sProp 𝕄) ⊢ bigSep Finset.univ (wCr (F := F) c) := by
    rw [launch_at c _ _ rounds_credit, show amtK (kindOf (.reg creditS)) = 1 by rw [kind_credit]; rfl,
      (big5 (wCr (F := F) c)).trans (show _ = iprop(cred (tallyOn (creditC c) (Finsupp.single 0 1)) ∗ cred (tallyOn (creditC c) (Finsupp.single 1 1))
        ∗ cred (tallyOn (creditC c) (Finsupp.single 2 1)) ∗ cred (tallyOn (creditC c) (Finsupp.single 3 1)) ∗ cred (tallyOn (creditC c) (Finsupp.single 4 1))) from rfl)]
    simp only [List.map_cons, List.map_nil, List.sum_cons, List.sum_nil, add_zero, tallyOn_add]
    iintro ⟨H0, H1, H2, H3, H4⟩
    isplitl [H0]; · iexact H0
    isplitl [H1]; · iexact H1
    isplitl [H2]; · iexact H2
    isplitl [H3]; · iexact H3
    iexact H4
  unfold Pipeline.launchCred creds
  rw [bigSep_univ_at _ (SemLoc.reg barS), hb]
  have ho : (bigSep (Finset.univ.erase (SemLoc.reg barS)) fun sm : SemLoc sig => (cred (tallyOn ((c : Thread nD τ), sm) (launchCredit (Pipeline.owing O₀) 0 ((c : Thread nD τ), sm))) : sProp 𝕄))
      ⊢ bigSep Finset.univ fun k : Fin 31 => cred (tallyOn ((c : Thread nD τ), osem0 k) (launchCredit (Pipeline.owing O₀) 0 ((c : Thread nD τ), osem0 k))) := by
    refine (bigSep_subset (t := Finset.univ.map (⟨osem0, osem0_inj⟩ : Fin 31 ↪ SemLoc sig)) fun sm hsm => ?_).trans
      (Entails.of_eq (bigSep_map (s := Finset.univ) (⟨osem0, osem0_inj⟩ : Fin 31 ↪ SemLoc sig)))
    obtain ⟨k, -, rfl⟩ := Finset.mem_map.mp hsm
    exact Finset.mem_erase.mpr ⟨osem0_ne_bar k, Finset.mem_univ _⟩
  rw [sems_split (fun sm : SemLoc sig => (cred (tallyOn ((c : Thread nD τ), sm) (launchCredit (Pipeline.owing O₀) 0 ((c : Thread nD τ), sm))) : sProp 𝕄))] at ho
  iintro ⟨Hb, H⟩
  ihave H' := ho $$ H
  icases H' with ⟨-, Hd, -, Hs, -, Hc⟩
  isplitl [Hb]; · iexact Hb
  isplitl [Hd]
  · have e : (bigSep Finset.univ fun h : Fin 7 => (cred (tallyOn (drecvC c h) (launchCredit (Pipeline.owing O₀) 0 (drecvC c h))) : sProp 𝕄))
        ⊢ bigSep Finset.univ fun h : Fin 7 => cred (tallyAt (drecvC c h) 0 Nc) := bigSep_mono fun h _ => hd h
    iapply e; iexact Hd
  isplitl [Hs]
  · have e : (bigSep Finset.univ fun h : Fin 7 => (cred (tallyOn (srecvC c h) (launchCredit (Pipeline.owing O₀) 0 (srecvC c h))) : sProp 𝕄))
        ⊢ bigSep Finset.univ fun h : Fin 7 => cred (tallyAt (srecvC c h) 0 Ns) := bigSep_mono fun h _ => hs h
    iapply e; iexact Hs
  iapply hc; iexact Hc

/-! ## Opening the cells -/

/-- What a device holds of the protocol from launch, and once its own cells are open. -/
def dealt (c : Dev nD) : sProp 𝕄 :=
  iprop(atPos ER (barC c) 0 ∅ 0 ∗ (bigSep Finset.univ fun k : Fin 31 => openTok ER ((c : Thread nD τ), osem0 k))
    ∗ (bigSep Finset.univ fun i : Fin 8 => bigSep Finset.univ fun k : Fin 7 => tokAt c i k))
def opened (K : GSem nD τ sig → ℕ) (c : Dev nD) : sProp 𝕄 :=
  iprop(ctx m K c ∗ atPos ER (barC c) 0 ∅ 0 ∗ (bigSep Finset.univ fun k : Fin 31 => atPos ER ((c : Thread nD τ), osem0 k) 0 ∅ 0)
    ∗ (bigSep Finset.univ fun i : Fin 8 => bigSep Finset.univ fun k : Fin 7 => tokAt c i k))

theorem open_all (K : GSem nD τ sig → ℕ) (c : Dev nD) :
    iprop(records m K ∗ (bigSep Finset.univ fun k : Fin 31 => openTok ER ((c : Thread nD τ), osem0 k)) ∗ Pipeline.ownSems0 osem0 c)
      ⊢ (|={Set.univ}=> iprop((bigSep Finset.univ fun k : Fin 31 => atPos ER ((c : Thread nD τ), osem0 k) 0 ∅ 0) ∗ ownOpen c) : sProp 𝕄) := by
  have one (k : Fin 31) : iprop(records m K ∗ (openTok ER ((c : Thread nD τ), osem0 k) ∗ semVal ((c : Thread nD τ), osem0 k) 0))
      ⊢ (|={Set.univ}=> iprop(atPos ER ((c : Thread nD τ), osem0 k) 0 ∅ 0 ∗ reached ER ((c : Thread nD τ), osem0 k) 0) : sProp 𝕄) := by
    have e : records m K ⊢ cellInv ER (Rd m) (K ((c : Thread nD τ), osem0 k)) ((c : Thread nD τ), osem0 k) := by
      unfold records
      iintro ⟨H, -⟩
      have e : (bigSep (barCells ∪ scCells) fun g => cellInv ER (Rd m) (K g) g : sProp 𝕄) ⊢ cellInv ER (Rd m) (K ((c : Thread nD τ), osem0 k)) ((c : Thread nD τ), osem0 k) := bigSep_elim (sc_mem c k)
      iapply e; iexact H
    iintro ⟨#Hr, Ho, Hs⟩
    iapply (Rounds.cell_open ER (Rd m) (g := ((c : Thread nD τ), osem0 k)) (Set.mem_univ (K ((c : Thread nD τ), osem0 k))))
    isplitr; · iapply e; iexact Hr
    isplitl [Ho]; · iexact Ho
    iexact Hs
  unfold Pipeline.ownSems0
  iintro ⟨#Hr, Ho, Hs⟩
  have hb : iprop(records m K ∗ bigSep Finset.univ fun k : Fin 31 => iprop(openTok ER ((c : Thread nD τ), osem0 k) ∗ semVal ((c : Thread nD τ), osem0 k) 0))
      ⊢ bigSep Finset.univ fun k : Fin 31 => (iprop(|={Set.univ}=> (atPos ER ((c : Thread nD τ), osem0 k) 0 ∅ 0 ∗ reached ER ((c : Thread nD τ), osem0 k) 0)) : sProp 𝕄) :=
    bigSep_with_persistent fun k _ => one k
  ihave Hp := (Entails.of_eq (bigSep_sep' Finset.univ (fun k : Fin 31 => (openTok ER ((c : Thread nD τ), osem0 k) : sProp 𝕄)) (fun k : Fin 31 => semVal ((c : Thread nD τ), osem0 k) 0)).symm) $$ [Ho Hs]
  · isplitl [Ho]; · iexact Ho
    iexact Hs
  ihave Hq := hb $$ [Hp]
  · isplitr; · iexact Hr
    iexact Hp
  imod (bigSep_fupd Finset.univ (fun k : Fin 31 => (iprop(atPos ER ((c : Thread nD τ), osem0 k) 0 ∅ 0 ∗ reached ER ((c : Thread nD τ), osem0 k) 0) : sProp 𝕄))) $$ Hq with Hq
  imodintro
  ihave Hu := (Entails.of_eq (bigSep_sep' Finset.univ (fun k : Fin 31 => (atPos ER ((c : Thread nD τ), osem0 k) 0 ∅ 0 : sProp 𝕄)) (fun k : Fin 31 => reached ER ((c : Thread nD τ), osem0 k) 0))) $$ Hq
  unfold ownOpen
  iexact Hu

theorem open_own (K : GSem nD τ sig → ℕ) (c : Dev nD) :
    iprop((records m K ∗ dealt c) ∗ Pipeline.ownSems0 osem0 c ∗ levAts L lv) ⊢ (|={Set.univ}=> opened m K c : sProp 𝕄) := by
  unfold dealt opened ctx
  iintro ⟨⟨#Hr, Hb, Ho, Ht⟩, Hs, #Hl⟩
  imod (open_all m K c) $$ [Ho Hs] with ⟨Ha, #Hw⟩
  · isplitr; · iexact Hr
    isplitl [Ho]; · iexact Ho
    iexact Hs
  imodintro
  isplitr
  · isplitr; · iexact Hr
    isplitr; · iexact Hw
    iexact Hl
  isplitl [Hb]; · iexact Hb
  isplitl [Ha]; · iexact Ha
  iexact Ht

end Cert.KernelIdeal.Ring

end
-- ==== Proof.IdealRegion.lean ====
module

public import proofs.«01_k».proof.Proof.IdealFund

@[expose] public section

noncomputable section

namespace Cert.KernelIdeal.Ring

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig ℕ (Elt F) ℕ UU ℕ

variable (m : (ℓ : Loc nD τ sig) → Buf (Elt F) ℓ)

/-! ## What the body needs, of what the region holds -/

abbrev V₀ (c : Dev nD) : Valuation τ sig (Elt F) := fun b => m ((c : Dev nD), b)
def V₁ (c : Dev nD) : Valuation τ sig (Elt F) := StableHlo.after hostOps0 (V₀ m c)
/-- Once the kernel has run: the result written. -/
def V₂ (c : Dev nD) : Valuation τ sig (Elt F) := Function.update (V₁ m c) (Proc.devRef .tc main_v7) (outF m c)

/-- The result's buffer, alone. -/
def outS : Finset (DevRef τ sig) := {Proc.devRef .tc main_v7}
theorem held_out (c : Dev nD) (W : Valuation τ sig (Elt F)) :
    (StableHlo.held (c : Thread nD τ) outS W : sProp 𝕄) = ((c : Thread nD τ).loc main_v7 ↦{fullShare} W (Proc.devRef .tc main_v7)) := by
  unfold StableHlo.held outS
  rw [bigSep_singleton]
theorem V₂_out (c : Dev nD) : V₂ m c (Proc.devRef .tc main_v7) = outF m c := Function.update_self ..
theorem V₂_ne (c : Dev nD) (b : DevRef τ sig) (h : b ≠ Proc.devRef .tc main_v7) : V₂ m c b = V₁ m c b := Function.update_of_ne h ..

theorem pre_intro (K : GSem nD τ sig → ℕ) (c : Dev nD) :
    iprop(opened m K c ∗ creds c ∗ Pipeline.scopedRest spec0 c ∗ StableHlo.held (c : Thread nD τ) outS (V₁ m c) ∗ ePts m c fullShare ∗ sPts m c fullShare ∗ owe c 0)
      ⊢ (iprop(ctx m K c ∗ preA m c ∗ preB m c) : sProp 𝕄) := by
  rw [held_out, scopedRest0_eq]
  unfold opened creds preA preB
  rw [sems_split (fun sm : SemLoc sig => (atPos ER ((c : Thread nD τ), sm) 0 ∅ 0 : sProp 𝕄))]
  have eR : (bigSep Finset.univ fun h : Fin 7 => (wDr c h : sProp 𝕄))
      = iprop((bigSep Finset.univ fun h : Fin 7 => atPos ER (drecvC c h) 0 ∅ 0) ∗ bigSep Finset.univ fun h : Fin 7 => cred (tallyAt (drecvC c h) 0 Nc)) :=
    bigSep_sep' Finset.univ (fun h : Fin 7 => (atPos ER (drecvC c h) 0 ∅ 0 : sProp 𝕄)) (fun h : Fin 7 => cred (tallyAt (drecvC c h) 0 Nc))
  have eS : (bigSep Finset.univ fun h : Fin 7 => (wSr c h : sProp 𝕄))
      = iprop((bigSep Finset.univ fun h : Fin 7 => atPos ER (srecvC c h) 0 ∅ 0) ∗ bigSep Finset.univ fun h : Fin 7 => cred (tallyAt (srecvC c h) 0 Ns)) :=
    bigSep_sep' Finset.univ (fun h : Fin 7 => (atPos ER (srecvC c h) 0 ∅ 0 : sProp 𝕄)) (fun h : Fin 7 => cred (tallyAt (srecvC c h) 0 Ns))
  have eO : (bigSep Finset.univ fun n : Fin 16 => (tO c n : sProp 𝕄))
      = iprop((bigSep Finset.univ fun n : Fin 16 => oTok c n) ∗ bigSep Finset.univ fun n : Fin 16 => outAny c n) :=
    bigSep_sep' Finset.univ (fun n : Fin 16 => (oTok c n : sProp 𝕄)) (fun n : Fin 16 => outAny c n)
  have eP : (bigSep Finset.univ fun sl : Fin 2 => (pO c sl 0 : sProp 𝕄))
      = iprop((bigSep Finset.univ fun sl : Fin 2 => atPos ER (osemC c sl) 0 ∅ 0) ∗ bigSep Finset.univ fun sl : Fin 2 => reached ER (osemC c sl) 0) :=
    bigSep_sep' Finset.univ (fun sl : Fin 2 => (atPos ER (osemC c sl) 0 ∅ 0 : sProp 𝕄)) (fun sl : Fin 2 => reached ER (osemC c sl) 0)
  have hP : ctx m K c ⊢ bigSep Finset.univ fun sl : Fin 2 => reached ER (osemC c sl) 0 :=
    bigSep_intro_persistent fun sl _ => ctx_own m K c (own_osem sl)
  rw [eR, eS, eO, eP]
  unfold wBar pCr
  iintro ⟨⟨#Hc, Hb, ⟨Hds, Hdr, Hss, Hsr, Hos, Hcr⟩, Ht⟩, ⟨Cb, Cd, Cs, Cc⟩, ⟨⟨%f0, M0⟩, ⟨%f1, M1⟩, ⟨%f2, M2⟩⟩, Mo, He, Hs, HO⟩
  ihave Ht' := (toks_rows (F := F) c) $$ Ht
  icases Ht' with ⟨TB, TS, TD, TC, TO⟩
  isplitr; · iexact Hc
  isplitl [HO TB Hb Cb TS Hsr Cs Hss M1 M0 Hs]
  · isplitl [HO]; · iexact HO
    isplitl [TB]; · iexact TB
    isplitl [Hb Cb]; · isplitl [Hb]; · iexact Hb
                       iexact Cb
    isplitl [TS]; · iexact TS
    isplitl [Hsr Cs]; · isplitl [Hsr]; · iexact Hsr
                        iexact Cs
    isplitl [Hss]; · iexact Hss
    isplitl [M1]; · iapply (stat_open c f1); iexact M1
    isplitl [M0]; · iapply (comm_open c f0); iexact M0
    iexact Hs
  isplitl [TD]; · iexact TD
  isplitl [Hdr Cd]; · isplitl [Hdr]; · iexact Hdr
                      iexact Cd
  isplitl [Hds]; · iexact Hds
  isplitl [TC]; · iexact TC
  isplitl [Cc]; · iexact Cc
  isplitl [Hcr]
  · isplitl [Hcr]; · iexact Hcr
    iapply (ctx_own m K c own_credit); iexact Hc
  isplitl [TO Mo]
  · isplitl [TO]; · iexact TO
    iapply (out_open c _); iexact Mo
  isplitl [Hos]
  · isplitl [Hos]; · iexact Hos
    iapply hP; iexact Hc
  isplitl [M2]; · iapply (stage_open c f2); iexact M2
  iexact He

theorem post_elim (K : GSem nD τ sig → ℕ) (c : Dev nD) :
    iprop(ctx m K c ∗ postA m c ∗ postB m c)
      ⊢ (|={Set.univ}=> iprop(Pipeline.ownSems0 osem0 c ∗ Pipeline.scopedRest spec0 c ∗ StableHlo.held (c : Thread nD τ) outS (V₂ m c)
        ∗ ePts m c fullShare ∗ sPts m c fullShare) : sProp 𝕄) := by
  rw [held_out, scopedRest0_eq, V₂_out]
  unfold postA postB Pipeline.ownSems0 pCr
  rw [sems_split (fun sm : SemLoc sig => (semVal ((c : Thread nD τ), sm) 0 : sProp 𝕄)),
    big2 (fun sl : Fin 2 => pO c sl 8), big2 (fun sl : Fin 2 => (semVal ((c : Thread nD τ), (.dma (osemS sl) : SemLoc sig)) 0 : sProp 𝕄))]
  unfold pO
  have co (sl : Fin 2) : iprop(ctx m K c ∗ atPos ER (osemC c sl) 8 ∅ 0) ⊢ (|={Set.univ}=> semVal (osemC c sl) 0 : sProp 𝕄) := by
    iintro ⟨Hc, Ha⟩
    iapply (close m K (osemC c sl) 8 (fun r hr => by rw [kind_osem]; exact if_neg (Nat.not_lt.mpr hr)))
    isplitl [Hc]; · iapply (ctx_inv_own m K c c (own_osem sl)); iexact Hc
    iexact Ha
  have cc : iprop(ctx m K c ∗ atPos ER (creditC c) 5 ∅ 0) ⊢ (|={Set.univ}=> semVal (creditC c) 0 : sProp 𝕄) := by
    iintro ⟨Hc, Ha⟩
    iapply (close m K (creditC c) 5 (fun r hr => by rw [kind_credit]; exact if_neg (Nat.not_lt.mpr hr)))
    isplitl [Hc]; · iapply (ctx_inv_own m K c c own_credit); iexact Hc
    iexact Ha
  iintro ⟨#Hc, ⟨Hss, Hsr, Hst, Hs⟩, Hds, Hdr, ⟨Hcr, -⟩, ⟨⟨Ho0, -⟩, ⟨Ho1, -⟩⟩, Hout, Hstg, Hcm, He⟩
  imod cc $$ [Hcr] with Vc
  · isplitr; · iexact Hc
    iexact Hcr
  imod (co 0) $$ [Ho0] with V0
  · isplitr; · iexact Hc
    iexact Ho0
  imod (co 1) $$ [Ho1] with V1
  · isplitr; · iexact Hc
    iexact Ho1
  imodintro
  isplitl [Hds Hdr Hss Hsr V0 V1 Vc]
  · isplitl [Hds]; · iexact Hds
    isplitl [Hdr]; · iexact Hdr
    isplitl [Hss]; · iexact Hss
    isplitl [Hsr]; · iexact Hsr
    isplitl [V0 V1]; · isplitl [V0]; · iexact V0
                       iexact V1
    iexact Vc
  isplitl [Hcm Hst Hstg]
  · isplitl [Hcm]; · iapply (comm_shut m c); iexact Hcm
    isplitl [Hst]; · iapply (stat_shut m c); iexact Hst
    iapply (stage_shut m c); iexact Hstg
  isplitl [Hout]; · iapply (out_shut m c); iexact Hout
  isplitl [He]; · iexact He
  iexact Hs

/-! ## The region's proof data -/

/-- What enters the region, and what leaves it. -/
def Xk (c : Dev nD) : sProp 𝕄 := iprop((∃ K, opened m K c) ∗ creds c)
def Yk (c : Dev nD) : sProp 𝕄 := semVal (barC c) 0
def ΦA (c : Dev nD) : sProp 𝕄 :=
  iprop(Pipeline.scopedRest spec0 c ∗ (∃ r, prngReg c r) ∗ StableHlo.held (c : Thread nD τ) outS (V₁ m c) ∗ Xk m c)
def ΦB (c : Dev nD) : sProp 𝕄 :=
  iprop(Pipeline.scopedRest spec0 c ∗ (∃ r, prngReg c r) ∗ StableHlo.held (c : Thread nD τ) outS (V₂ m c) ∗ Pipeline.ownSems0 osem0 c ∗ Yk c)

/-- The arrays are as the operations before the kernel left them; both are only read. -/
def dat0 (c : Dev nD) : Pipeline.Dat τ (Elt F) ℕ ℕ UU ℕ cfg0 c where
  A w := V m c (Pipeline.arrRef spec0 w)
  after w _ := match w with
    | ⟨0, _⟩ => eX m c
    | ⟨1, _⟩ => sX m c
  Φ t := if t.val = 0 then ΦA m c else ΦB m c
  q _ := fullShare
  owed t := if t.val = 0 then O₀ c else 0

abbrev adm : (p : Fin 1) → (pcfgs (F := F) p).Adm := fun p => (cfgs p).toPCfg_adm
def pdats : (p : Fin 1) → (c : Dev nD) → Pipeline.Dat τ (Elt F) ℕ ℕ UU ℕ (Pipeline.pin (pcfgs (F := F)) adm p) c
  | 0 => dat0 m

theorem owed_first (c : Dev nD) : (dat0 (F := F) m c).owed t0_0.castSucc = owed c 0 := by
  show (if (t0_0.castSucc : Fin (cfg0.N + 1)).val = 0 then O₀ c else 0) = O₀ c; exact if_pos rfl
theorem owed_last (c : Dev nD) : (dat0 (F := F) m c).owed t0_0.succ = owed c 26 := by
  show (if (t0_0.succ : Fin (cfg0.N + 1)).val = 0 then O₀ c else 0) = owed c 26
  rw [if_neg (by decide)]; rfl

theorem owes_in {cfg : Pipeline.Cfg sig Λ₀} {c : Dev nD} (dat : Pipeline.Dat τ (Elt F) ℕ ℕ UU ℕ cfg c) (t : Fin (cfg.N + 1)) (n : ℕ)
    (h0 : dat.owed t = owed c n) (hr : dat.recorded t = Set.univ) : (owe c n : sProp 𝕄) ⊢ (dat.owesAt 0 t : sProp 𝕄) := by
  unfold Pipeline.Dat.owesAt Pipeline.owesWithin Pipeline.Dat.bound owe; rw [h0, hr]
  iintro ⟨%W, HO⟩; iexists W; isplitr; · ipureintro; exact fun _ _ => Or.inl trivial
  iexact HO
theorem owes_out {cfg : Pipeline.Cfg sig Λ₀} {c : Dev nD} (dat : Pipeline.Dat τ (Elt F) ℕ ℕ UU ℕ cfg c) (t : Fin (cfg.N + 1)) (n : ℕ)
    (h0 : dat.owed t = owed c n) : (dat.owesAt 0 t : sProp 𝕄) ⊢ (owe c n : sProp 𝕄) := by
  unfold Pipeline.Dat.owesAt Pipeline.owesWithin owe; rw [h0]
  iintro ⟨%W, -, HO⟩; iexists W; iexact HO

set_option maxRecDepth 20000 in
/-- The whole array is one block. -/
theorem blk_emb0 (x : S512x8192.Idx) : ((cfg0.win 0).blk t0_0).view.emb x = x := by
  funext a
  match a with
  | ⟨0, _⟩ => exact Fin.ext (show 0 + 1 * (x 0).val = (x 0).val by omega)
  | ⟨1, _⟩ => exact Fin.ext (show 0 + 1 * (x 1).val = (x 1).val by omega)
theorem blk_emb1 (x : S512x128.Idx) : ((cfg0.win 1).blk t0_0).view.emb x = x := by
  funext a
  match a with
  | ⟨0, _⟩ => exact Fin.ext (show 0 + 1 * (x 0).val = (x 0).val by omega)
  | ⟨1, _⟩ => exact Fin.ext (show 0 + 1 * (x 1).val = (x 1).val by omega)

theorem before0 (c : Dev nD) (d) : (dat0 (F := F) m c).before 0 t0_0 d = eX m c := by
  unfold Pipeline.Dat.before; rw [if_pos (by decide)]
  exact (funext fun x => read_at ((cfg0.win 0).blk t0_0) (eX m c) (eX m c x) x x (blk_emb0 x).symm HEq.rfl).symm
theorem before1 (c : Dev nD) (d) : (dat0 (F := F) m c).before 1 t0_0 d = sX m c := by
  unfold Pipeline.Dat.before; rw [if_pos (by decide)]
  exact (funext fun x => read_at ((cfg0.win 1).blk t0_0) (sX m c) (sX m c x) x x (blk_emb1 x).symm HEq.rfl).symm

theorem owns_whole (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

theorem ePts_whole (c : Dev nD) : (ePts m c fullShare : sProp 𝕄) = ((c : Thread nD τ).loc cc0_stg0_0 ↦{fullShare} eX m c) := by
  unfold ePts; simp only [Memref.view_whole, View.set_whole]
theorem sPts_whole (c : Dev nD) : (sPts m c fullShare : sProp 𝕄) = ((c : Thread nD τ).loc cc0_stg1_0 ↦{fullShare} sX m c) := by
  unfold sPts; simp only [Memref.view_whole, View.set_whole]

/-- The body, between what the region holds before and after. -/
theorem body_run (c : Dev nD) (h0 h1 h2 h3 h4 h5) {Q : PUnit → sProp 𝕄} :
    iprop(ΦA m c ∗ owe c 0 ∗ ePts m c fullShare ∗ sPts m c fullShare)
      ⊢ iprop(((ΦB m c ∗ owe c 26 ∗ ePts m c fullShare ∗ sPts m c fullShare) -∗ Q ⟨⟩)
        -∗ wpc c (cc0_body (F := F) eM h0 sM h1 oM h2 commB h3 statB h4 stageB h5 cc0_scratch3 cc0_scratch4 cc0_scratch5 cc0_scratch6 cc0_scratch7 cc0_scratch8) Q) := by
  unfold ΦA ΦB Xk Yk
  iintro ⟨⟨Hscr, Hp, Hout, ⟨⟨%K, Ho⟩, Hcr⟩⟩, HO, He, Hs⟩ Hk
  ihave Hpre := (pre_intro m K c) $$ [Ho Hcr Hscr Hout He Hs HO]
  · isplitl [Ho]; · iexact Ho
    isplitl [Hcr]; · iexact Hcr
    isplitl [Hscr]; · iexact Hscr
    isplitl [Hout]; · iexact Hout
    isplitl [He]; · iexact He
    isplitl [Hs]; · iexact Hs
    iexact HO
  icases Hpre with ⟨#Hc, HA, HB⟩
  iapply (wp_fupd frame (wpE (defs₀ (F := F)) 𝒱₀ (c : Thread nD τ) none) Set.univ _ Q)
  iapply (body_wp m K c h0 h1 h2 h3 h4 h5 (Q := fun a => iprop(|={Set.univ}=> Q a))) $$ [HA HB]
  · isplitr; · iexact Hc
    isplitl [HA]; · iexact HA
    iexact HB
  iintro ⟨HO, Hb, HA, HB⟩
  imod (post_elim m K c) $$ [HA HB] with ⟨Hos, Hscr, Hout, He, Hs⟩
  · isplitr; · iexact Hc
    isplitl [HA]; · iexact HA
    iexact HB
  imodintro
  iapply Hk
  isplitl [Hscr Hp Hout Hos Hb]
  · isplitl [Hscr]; · iexact Hscr
    isplitl [Hp]; · iexact Hp
    isplitl [Hout]; · iexact Hout
    isplitl [Hos]; · iexact Hos
    iexact Hb
  isplitl [HO]; · iexact HO
  isplitl [He]; · iexact He
  iexact Hs

set_option maxRecDepth 4000 in
theorem body0 (c : Dev nD) : Pipeline.BodyObligation (dat0 (F := F) m c) (defs₀ (F := F)) 𝒱₀ 0 Set.univ := fun t => by
  obtain rfl := fin_N0 t
  rw [bigSep_W0, bigSep_W0]
  simp only [owns_whole]
  rw [show (dat0 m c).Φ t0_0.castSucc = ΦA m c from rfl, show (dat0 m c).Φ t0_0.succ = ΦB m c from rfl]
  iintro ⟨HΦ, HO, ⟨%d0, %f0, %hf0, H0⟩, ⟨%d1, %f1, %hf1, H1⟩⟩
  rw [before0] at hf0
  rw [before1] at hf1
  subst hf0 hf1
  ihave HO' := (owes_out (dat0 m c) _ 0 (owed_first m c)) $$ HO
  iapply (body_run m c _ _ _ _ _ _) $$ [HΦ HO' H0 H1]
  · isplitl [HΦ]; · iexact HΦ
    isplitl [HO']; · iexact HO'
    isplitl [H0]; · iapply (Entails.of_eq (ePts_whole m c).symm); iexact H0
    iapply (Entails.of_eq (sPts_whole m c).symm); iexact H1
  iintro ⟨HΦ, HO, He, Hs⟩
  isplitl [HΦ]; · iexact HΦ
  isplitl [HO]; · iapply (owes_in (dat0 m c) t0_0.succ 26 (owed_last m c) rfl); iexact HO
  isplitl [He]
  · iexists _; isplitr; swap; (· iapply (Entails.of_eq (ePts_whole m c)); iexact He); ipureintro; rfl
  · iexists _; isplitr; swap; (· iapply (Entails.of_eq (sPts_whole m c)); iexact Hs); ipureintro; rfl

end Cert.KernelIdeal.Ring

end
-- ==== Proof.IdealLaunch.lean ====
module

public import proofs.«01_k».proof.Proof.IdealRegion

@[expose] public section

noncomputable section

namespace Cert.KernelIdeal.Ring

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig ℕ (Elt F) ℕ UU ℕ

variable (m : (ℓ : Loc nD τ sig) → Buf (Elt F) ℓ)

/-! ## The region and the operations before it, as the program's segments -/

local notation "ℍ" => Pipeline.HostSeg (Name := ℕ) (U := UU) (pcfgs (F := F)) defs₀ 𝒱₀ L lv
local notation "ℝ𝕊" => Pipeline.RegionSeg (pcfgs (F := F)) adm (pdats m) 0 defs₀ 𝒱₀ L lv

abbrev bufs : Finset (DevRef τ sig) := Pipeline.ucRefs τ sig
/-- The buffers no window stages. -/
def offS : Finset (DevRef τ sig) := bufs \ Pipeline.arrRefs spec0

theorem arr_sub : (Pipeline.arrRefs spec0 : Finset (DevRef τ sig)) ⊆ bufs := by decide +kernel
theorem out_sub : outS ⊆ offS := by decide +kernel
theorem out_apart : ∀ w : Fin 2, Proc.devRef (τ := τ) .tc (Pipeline.arrRef spec0 w) ≠ Proc.devRef .tc main_v7 := by decide +kernel
theorem arr_off : ∀ b ∈ (Pipeline.arrRefs spec0 : Finset (DevRef τ sig)), b ≠ Proc.devRef .tc main_v7 := by decide +kernel

/-- What the launch keeps for the region. -/
def Tk (c : Dev nD) : sProp 𝕄 := iprop((∃ K, records m K ∗ dealt c) ∗ creds c)
/-- What rides beside the buffers up to the region. -/
def R (c : Dev nD) : sProp 𝕄 := iprop(Tk m c ∗ (∃ r, prngReg c r) ∗ ∃ W, owes (c : Thread nD τ) (O₀ c) W)

def seg0 : ℍ :=
  Pipeline.HostSeg.ofOps _ _ _ _ _ bufs hostOps0 (fun op h => Pipeline.sub_ucRefs op (List.forall_iff_forall_mem.mp hostOps0_sub op h))
    (List.forall_iff_forall_mem.mp hostOps0_fresh) (V₀ m) (R m)

theorem hopen (c : Dev nD) : iprop(Tk m c ∗ Pipeline.ownSems0 osem0 c ∗ levAts L lv) ⊢ (|={Set.univ}=> Xk m c : sProp 𝕄) := by
  unfold Tk Xk
  iintro ⟨⟨⟨%K, H⟩, Hcr⟩, Hs, #Hl⟩
  imod (open_own m K c) $$ [H Hs] with Ho
  · isplitl [H]; · iexact H
    isplitl [Hs]; · iexact Hs
    iexact Hl
  imodintro
  isplitl [Ho]; · iexists K; iexact Ho
  iexact Hcr

theorem owed_end (c : Dev nD) : (dat0 (F := F) m c).owed (Fin.last _) = 0 := by
  show (if (Fin.last cfg0.N).val = 0 then O₀ c else 0) = 0
  exact if_neg (by decide)

theorem owed_cut (c : Dev nD) (t) (g : GSem nD τ sig) (i : ℕ) (h : 0 < (dat0 (F := F) m c).owed t g i) : i ∈ L g ∧ 0 < lv g i := by
  have h' : 0 < (if t.val = 0 then O₀ c else 0) g i := h
  by_cases ht : t.val = 0
  · rw [if_pos ht] at h'
    obtain ⟨x, hx, rfl, rfl⟩ := owedL_pos _ g i h'
    exact ⟨dues_L c x (List.mem_of_mem_drop hx), dues_lev c 0 0 (by decide) x hx⟩
  · rw [if_neg ht] at h'
    exact absurd h' (Nat.lt_irrefl 0)

theorem Φ_first (c : Dev nD) : (dat0 (F := F) m c).Φ 0 = ΦA m c := by
  show (if (0 : Fin (cfg0.N + 1)).val = 0 then ΦA m c else ΦB m c) = _; exact if_pos rfl
theorem Φ_last (c : Dev nD) : (dat0 (F := F) m c).Φ (Fin.last _) = ΦB m c := by
  show (if (Fin.last cfg0.N).val = 0 then ΦA m c else ΦB m c) = _; exact if_neg (by decide)

theorem stage_kind : ∀ (w : Fin 2) (s : Fin (spec0 w).nbuf), levK (kindOf (.dma ((spec0 w).sem s))) 0 = 0 := by decide +kernel

set_option backward.isDefEq.respectTransparency.types false in
def reg0 : ℝ𝕊 0 :=
  Pipeline.RegionSeg.ofTalk (pcfgs (F := F)) adm (pdats m) 0 defs₀ 𝒱₀ L lv 0 osem0 (by decide +kernel : Pipeline.OwnSemFacts spec0 osem0)
    outS offS out_sub launch0.toP rfl (fun c => (body0 m c).loose)
    (fun _ => 0) O₀ (fun c => (owed_first m c).trans (zero_add _).symm) (owed_end m) (fun _ => rfl) (fun _ w => by match w with | ⟨0, _⟩ => rfl | ⟨1, _⟩ => rfl)
    (V₁ m) (V₂ m) (fun c b hb => V₂_ne m c b (fun h => (Finset.mem_sdiff.mp hb).2 (h ▸ Finset.mem_singleton_self _)))
    (Tk m) Yk (Xk m) Yk (hopen m) (fun c => Entails.of_eq (Φ_first m c).symm) (fun c => Entails.of_eq (Φ_last m c))
    (fun c => by iintro H; imodintro; iexact H)
    (fun _ => 0)
    ⟨fun c w s => by rw [L_tc]; decide, fun c w s => Nat.le_of_eq (stage_kind w s), fun c t g i h => owed_cut m c t g i h⟩
    (fun _ => iprop(emp))
    (fun c w => ((dat0 m c).arrAt_in w (by match w with | ⟨0, _⟩ => rfl | ⟨1, _⟩ => rfl) _).trans rfl)
    (fun c w => ((dat0 m c).arrAt_in w (by match w with | ⟨0, _⟩ => rfl | ⟨1, _⟩ => rfl) _).trans (V₂_ne m c _ (out_apart w)).symm)

theorem arr_V₂ (c : Dev nD) : (StableHlo.held (c : Thread nD τ) (Pipeline.arrRefs spec0) (V₂ m c) : sProp 𝕄)
    = StableHlo.held (c : Thread nD τ) (Pipeline.arrRefs spec0) (V₁ m c) :=
  bigSep_congr fun b hb => by rw [V₂_ne m c b (arr_off b hb)]

theorem reg0_pre (c : Dev nD) : iprop(StableHlo.held (c : Thread nD τ) bufs (V₁ m c) ∗ R m c) ⊢ (reg0 m).pre c := by
  show _ ⊢ iprop(StableHlo.held (c.tc : Thread nD τ) (Pipeline.arrRefs (τ := τ) spec0) (V₁ m c) ∗ (∃ r, prngReg c r)
    ∗ (StableHlo.held (c.tc : Thread nD τ) offS (V₁ m c) ∗ emp) ∗ Tk m c ∗ ∃ Wd, owes (c : Thread nD τ) (0 + O₀ c) Wd)
  rw [StableHlo.held_sub_split (c : Thread nD τ) arr_sub (V₁ m c), zero_add]
  unfold R
  iintro ⟨⟨Ha, Hr⟩, HT, Hp, HO⟩
  isplitl [Ha]; · iexact Ha
  isplitl [Hp]; · iexact Hp
  isplitl [Hr]
  · isplitl [Hr]; · iexact Hr
    iempintro
  isplitl [HT]; · iexact HT
  iexact HO

theorem reg0_post (c : Dev nD) : (reg0 m).post c
    ⊢ iprop((StableHlo.held (c : Thread nD τ) bufs (V₂ m c) ∗ semVal (barC c) 0) ∗ ∃ W, owes (c : Thread nD τ) (0 : CellTallies nD τ sig ℕ) W) := by
  show iprop(StableHlo.held (c.tc : Thread nD τ) (Pipeline.arrRefs (τ := τ) spec0) (V₂ m c) ∗ (∃ r, prngReg c r)
    ∗ (StableHlo.held (c.tc : Thread nD τ) offS (V₂ m c) ∗ emp) ∗ Yk c ∗ ∃ Wd, owes (c : Thread nD τ) (0 : CellTallies nD τ sig ℕ) Wd) ⊢ _
  rw [StableHlo.held_sub_split (c : Thread nD τ) arr_sub (V₂ m c)]
  unfold Yk
  iintro ⟨Ha, -, ⟨Hr, -⟩, Hb, HO⟩
  isplitl [Ha Hr Hb]
  · isplitl [Ha Hr]
    · isplitl [Ha]; · iexact Ha
      iexact Hr
    iexact Hb
  iexact HO

def segs : List (Pipeline.Seg (pcfgs (F := F)) adm (pdats m) 0 defs₀ 𝒱₀ L lv) := [.host (seg0 m), .region (reg0 m)]

/-! ## The launch -/

theorem disjoint_cells : Disjoint (barCells : Finset (GSem nD τ sig)) scCells := by
  rw [Finset.disjoint_left]
  rintro g h₁ h₂
  obtain ⟨c, -, rfl⟩ := Finset.mem_map.mp h₁
  obtain ⟨ck, -, h⟩ := Finset.mem_map.mp h₂
  exact osem0_ne_bar ck.2 (congrArg Prod.snd h)

/-- The launch element: the pipeline's own, and the protocol's. -/
def u₀ : UU :=
  (initOf (Pipeline.cells (Pipeline.pin (pcfgs (F := F)) adm) cellOf_inj) (Pipeline.launchToks (Pipeline.pin (pcfgs (F := F)) adm) cellOf_inj),
    launchOf barCells scCells allToks)

/-- The protocol's launch element is held whole: device 0 keeps it until the cells are funded. -/
def G (c : Dev nD) : sProp 𝕄 := if c = 0 then BI.own (ER (launchOf barCells scCells allToks)) else iprop(emp)
theorem bigSep_G : bigSep Finset.univ (G (F := F)) = (BI.own (ER (launchOf barCells scCells allToks)) : sProp 𝕄) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

abbrev T₀ (c : Dev nD) : sProp 𝕄 := iprop(StableHlo.held (c : Thread nD τ) bufs (V₀ m c) ∗ R m c)
abbrev Tₙ (c : Dev nD) : sProp 𝕄 := iprop(StableHlo.held (c : Thread nD τ) bufs (V₂ m c) ∗ semVal (barC c) 0)

/-- What of a device's launch holdings is not the protocol's. -/
def bundle (c : Dev nD) : sProp 𝕄 :=
  iprop(StableHlo.held (c : Thread nD τ) bufs (V₀ m c) ∗ creds c ∗ owes (c : Thread nD τ) (O₀ c) ∅ ∗ ∃ r, prngReg c r)

theorem T₀_intro (κ : GSem nD τ sig → ℕ) (c : Dev nD) : iprop(records m κ ∗ (dealt c ∗ bundle m c)) ⊢ T₀ m c := by
  unfold bundle T₀ R Tk
  iintro ⟨#HR, Hd, Hh, Hc, HO, Hp⟩
  isplitl [Hh]; · iexact Hh
  isplitl [Hd Hc]
  · isplitl [Hd]
    · iexists κ
      isplitr; · iexact HR
      iexact Hd
    iexact Hc
  isplitl [Hp]; · iexact Hp
  iexists ∅; iexact HO

theorem unscoped_eq : ∀ sm : SemLoc sig, sm.isScoped .tc = false → sm = .reg barS := by decide +kernel
theorem unscopedSems0_eq (c : Dev nD) : (unscopedSems0 c : sProp 𝕄) = semVal (barC c) 0 := by
  unfold unscopedSems0
  rw [show (Finset.univ.filter fun sm : SemLoc sig => ¬ sm.isScoped .tc) = {SemLoc.reg barS} from by decide +kernel, BI.bigSep_singleton]

variable (ρ : Dev nD → PrngReg)

theorem dev_init (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ G c)
    ⊢ (iprop(bundle m c ∗ (semVal (barC c) 0 ∗ G c)) : sProp 𝕄) := by
  rw [show unscopedBufs c (fun b => m ((c : Thread nD τ).loc b)) = StableHlo.held (c : Thread nD τ) bufs (V₀ m c) from Pipeline.unscopedBufs_held c (V₀ m c),
    unscopedSems0_eq]
  unfold bundle
  iintro ⟨Hh, Hus, HO, Hcr, Hp, HG⟩
  isplitl [Hh HO Hcr Hp]
  · isplitl [Hh]; · iexact Hh
    isplitl [Hcr]; · iapply (creds_intro (F := F) c); iexact Hcr
    isplitl [HO]; · iexact HO
    iexists (ρ c); iexact Hp
  isplitl [Hus]; · iexact Hus
  iexact HG

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have hall : (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (iprop((bigSep Finset.univ fun c : Dev nD => bundle m c) ∗ (bigSep Finset.univ fun c : Dev nD => semVal (barC c) 0) ∗ bigSep Finset.univ (G (F := F))) : sProp 𝕄) :=
    by
    rw [← bigSep_sep', ← bigSep_sep']
    exact bigSep_mono fun c _ => dev_init m ρ c
  have hv : bigSep Finset.univ (fun c : Dev nD => (semVal (barC c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hd : iprop(bigSep barCells (fun g => (atPos ER g 0 ∅ 0 : sProp 𝕄)) ∗ bigSep scCells (fun g => (openTok ER g : sProp 𝕄))
        ∗ bigSep allToks (fun x => (dutyTok ER x.1 x.2.1 x.2.2 : sProp 𝕄)))
      ⊢ bigSep Finset.univ fun c : Dev nD => (dealt c : sProp 𝕄) := by
    rw [allToks_eq]
    unfold dealt
    rw [bigSep_map, bigSep_map, bigSep_univ_prod, bigSep_sep', bigSep_sep']
    exact Entails.rfl
  iintro ⟨H, -⟩
  ihave H' := hall $$ H
  icases H' with ⟨HB, Hv, HG⟩
  ihave Hu := (Entails.of_eq (bigSep_G (F := F))) $$ HG
  imod (Rounds.fund_launch ER (Rd m) disjoint_cells (fun g _ h => h) allToks) $$ [Hv Hu] with ⟨%κ, -, #Hinv, #Hr, Hat, Hopen, Htok⟩
  · isplitl [Hv]; · iapply hv $$ Hv
    iexact Hu
  imodintro
  iapply (bigSep_with_persistent (R := records m κ) (Φ := fun c => iprop(dealt c ∗ bundle m c)) fun c _ => T₀_intro m κ c)
  isplitr
  · unfold records
    isplitr; · iexact Hinv
    iexact Hr
  iapply (Entails.of_eq (bigSep_sep' Finset.univ (fun c : Dev nD => (dealt c : sProp 𝕄)) (fun c : Dev nD => bundle m c)).symm)
  isplitr [HB]
  · iapply hd
    isplitl [Hat]; · iexact Hat
    isplitl [Hopen]; · iexact Hopen
    iexact Htok
  iexact HB

/-! ## The run -/

/-- The buffers, with the three the claims speak of apart. -/
theorem bufs_eq (c : Dev nD) (W : Valuation τ sig (Elt F)) : (StableHlo.held (c : Thread nD τ) bufs W : sProp 𝕄)
    = iprop(((c : Thread nD τ).loc main_arg0 ↦{fullShare} W (Proc.devRef .tc main_arg0)) ∗ ((c : Thread nD τ).loc main_arg1 ↦{fullShare} W (Proc.devRef .tc main_arg1))
      ∗ ((c : Thread nD τ).loc main_v7 ↦{fullShare} W (Proc.devRef .tc main_v7))
      ∗ StableHlo.held (c : Thread nD τ) (((bufs.erase (Proc.devRef .tc main_arg0)).erase (Proc.devRef .tc main_arg1)).erase (Proc.devRef .tc main_v7)) W) := by
  have hx : Proc.devRef (τ := τ) (sig := sig) .tc main_arg0 ∈ bufs := by decide +kernel
  have hy : Proc.devRef (τ := τ) (sig := sig) .tc main_arg1 ∈ bufs.erase (Proc.devRef .tc main_arg0) := by decide +kernel
  have hz : Proc.devRef (τ := τ) (sig := sig) .tc main_v7 ∈ (bufs.erase (Proc.devRef .tc main_arg0)).erase (Proc.devRef .tc main_arg1) := by decide +kernel
  unfold StableHlo.held
  rw [bigSep_erase hx, bigSep_erase hy, bigSep_erase hz]
  rfl

theorem V₂_arg0 (c : Dev nD) : V₂ m c (Proc.devRef .tc main_arg0) = m ((c : Thread nD τ).loc main_arg0) :=
  (V₂_ne m c _ (by decide +kernel)).trans (V_main_arg0 m c)
theorem V₂_arg1 (c : Dev nD) : V₂ m c (Proc.devRef .tc main_arg1) = m ((c : Thread nD τ).loc main_arg1) :=
  (V₂_ne m c _ (by decide +kernel)).trans (V_main_arg1 m c)

set_option backward.isDefEq.respectTransparency.types false in
/-- From any memory with every counter at zero, every fair run of the program ends; then the arguments are unchanged, the
    result is the one named, and every counter is at zero again. -/
theorem run_main : θ_run defs (onTc (τ := τ) (main (F := F))) ⟨m, fun _ => 0, ρ⟩
    (fun r => (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_v7) = outF m c) ∧ r.2.sem = fun _ => 0) :=
  Pipeline.θ_run_regions_kit_sems (pcfgs (F := F)) adm (pdats m) 0 cellOf_inj EP defs₀ 𝒱₀ L lv m ρ main (segs m)
    (fun c Q => by rw [main_segs adm (pdats m) 0 𝒱₀ L lv (seg0 m) (reg0 m) rfl c]; exact Entails.rfl)
    (by simp only [segs, Pipeline.Seg.pipes_host, Pipeline.Seg.pipes_region, Pipeline.Seg.pipes_nil]; decide)
    (O₀ := O₀) (hL := L_of_ne) (G := G) (u₀ := u₀ (F := F))
    (hu₀ := by
      unfold u₀
      iintro Hu
      ihave H := (ownU_pair _ _) $$ Hu
      icases H with ⟨HP, HX⟩
      imodintro
      isplitl [HP]; · iexact HP
      rw [bigSep_G]; iexact HX)
    (T₀ := T₀ m) (Tₙ := Tₙ m)
    (hch := ⟨fun c => .rfl, fun c => reg0_pre m c, fun c => reg0_post m c⟩)
    (hinit := init m ρ)
    (QY := fun c s => (s.mem ((c : Thread nD τ).loc main_arg0) = V₂ m c (Proc.devRef .tc main_arg0)
      ∧ s.mem ((c : Thread nD τ).loc main_arg1) = V₂ m c (Proc.devRef .tc main_arg1)
      ∧ s.mem ((c : Thread nD τ).loc main_v7) = V₂ m c (Proc.devRef .tc main_v7)) ∧ s.sem (barC c) = 0)
    (hfin := fun c s' => by
      dsimp only [Tₙ]; rw [bufs_eq]
      iintro ⟨⟨⟨H0, H1, H2, -⟩, Hb⟩, HSI⟩
      icombine HSI H0 gives %h0
      icombine HSI H1 gives %h1
      icombine HSI H2 gives %h2
      icombine HSI Hb gives %hb
      imodintro
      isplitr
      · ipureintro
        exact ⟨⟨Buf.eq_of_forall_mem_univ h0, Buf.eq_of_forall_mem_univ h1, Buf.eq_of_forall_mem_univ h2⟩, by simpa using hb⟩
      iexact HSI)
    (hQ := fun s h hs => ⟨fun c => ⟨(h c).1.1.trans (V₂_arg0 m c), (h c).1.2.1.trans (V₂_arg1 m c), (h c).1.2.2.trans (V₂_out m c)⟩,
      sem_eq_zero hs fun c sm hsm => by
        obtain rfl := unscoped_eq sm hsm
        exact (h c).2⟩)

end Cert.KernelIdeal.Ring

end
-- ==== Proof.Frames.lean ====
module

public import proofs.«01_k».proof.Defs
public import proofs.«01_k».proof.Proof.IdealLaunch
public import proofs.«01_k».proof.Proof.Gen.Kernel.Launch
public import proofs.«01_k».proof.Proof.Gen.ReferenceIdeal.Run

@[expose] public section

noncomputable section

namespace Cert.Proof

open Idealize.ShloMosaic Idealize.SL.Sem

/-! ## The two printed forms of the program are one program -/

theorem main_same : Cert.Kernel.main (F := Bits) = Cert.KernelIdeal.main (F := Bits) := rfl

/-- The tables of bodies agree label by label. -/
theorem bodies_same : Cert.Kernel.defs₀ (F := Bits) = Cert.KernelIdeal.defs₀ (F := Bits) := by
  unfold Cert.Kernel.defs₀ Cert.KernelIdeal.defs₀
  congr 1
  funext l x
  match l, x with
  | 0, (t, s) => rfl
  | ⟨_ + 1, h⟩, _ => exact absurd h (Nat.not_lt.2 (Nat.le_add_left _ _))

theorem defs_same : Cert.Kernel.defs (F := Bits) = Cert.KernelIdeal.defs (F := Bits) := by
  unfold Cert.Kernel.defs Cert.KernelIdeal.defs
  rw [bodies_same]
  rfl

/-! ## The frames -/

theorem frame_Kernel : Cert.quiescent_Kernel := fun m ρ _ => by
  have h := Cert.KernelIdeal.Ring.run_main (F := Bits) m ρ
  rw [← defs_same, ← main_same] at h
  exact (θ_run Cert.Kernel.defs _ _).mono (fun r hr => ⟨fun c => ⟨(hr.1 c).1, (hr.1 c).2.1⟩, hr.2⟩) h

theorem frame_KernelIdeal : Cert.quiescent_KernelIdeal := fun m ρ _ =>
  (θ_run Cert.KernelIdeal.defs _ _).mono (fun r hr => ⟨fun c => ⟨(hr.1 c).1, (hr.1 c).2.1⟩, hr.2⟩) (Cert.KernelIdeal.Ring.run_main (F := Ideal) m ρ)

/-- The reference declares no semaphore. -/
theorem no_sem : GSem Cert.ReferenceIdeal.nD Cert.ReferenceIdeal.τ Cert.ReferenceIdeal.sig → False
  | (_, .reg i) => i.elim0
  | (_, .dma i) => i.elim0

theorem frame_ReferenceIdeal : Cert.quiescent_ReferenceIdeal := fun m ρ _ =>
  (θ_run Cert.ReferenceIdeal.defs _ _).mono (fun r hr => ⟨fun c => ⟨(hr c).2.1, (hr c).2.2⟩, funext fun g => (no_sem g).elim⟩) (Cert.ReferenceIdeal.Value.run (F := Ideal) m ρ)

end Cert.Proof

end
-- ==== Proof.ValueReal.lean ====
module

public import Idealize.ShloMosaic.PureOps.Ideal.Laws
public import Idealize.ShloMosaic.Lib.IdealHost

@[expose] public section

noncomputable section

namespace Cert.Softmax

open Idealize.ShloMosaic
open scoped BigOperators

/-! ## Extended reals that are numbers -/

/-- `x` is a real number. -/
def Num (x : EReal) : Prop := ∃ r : ℝ, x = (r : EReal)

theorem Num.of_ne {x : EReal} (ht : x ≠ ⊤) (hb : x ≠ ⊥) : Num x := ⟨x.toReal, (EReal.coe_toReal ht hb).symm⟩

theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A sum of products of numbers is a number. -/
theorem Num.dot {ι : Type} [Fintype ι] {f g : ι → EReal} (hf : ∀ k, Num (f k)) (hg : ∀ k, Num (g k)) : Num (∑ k, f k * g k) := by
  choose a ha using hf
  choose b hb using hg
  refine ⟨∑ k, a k * b k, ?_⟩
  rw [coe_sum]
  exact Finset.sum_congr rfl fun k _ => by rw [ha, hb, EReal.coe_mul]

/-- The greatest of finitely many numbers, and at least one, is a number. -/
theorem Num.max {ι : Type} {s : Finset ι} {f : ι → EReal} (hf : ∀ k, Num (f k)) (hs : s.Nonempty) : Num (s.fold Max.max ⊥ f) := by
  refine Num.of_ne (ne_of_lt ?_) (ne_of_lt ?_).symm
  · rw [Finset.fold_max_lt]
    refine ⟨bot_lt_top, fun x _ => ?_⟩
    obtain ⟨r, hr⟩ := hf x
    rw [hr]; exact EReal.coe_lt_top r
  · rw [Finset.lt_fold_max]
    obtain ⟨x, hx⟩ := hs
    obtain ⟨r, hr⟩ := hf x
    exact .inr ⟨x, hx, by rw [hr]; exact EReal.bot_lt_coe r⟩

/-! ## The two ways to a softmax -/

/-- Exponentials of the differences over their sum: the maximum cancels. -/
theorem shifted {ι : Type} [Fintype ι] [Nonempty ι] (l : ι → ℝ) (M x : ℝ) :
    Ideal.div (Ideal.exp ((x : EReal) - (M : EReal))) (0 + ∑ k, Ideal.exp ((l k : EReal) - (M : EReal)))
      = ((Real.exp x / ∑ k, Real.exp (l k) : ℝ) : EReal) := by
  have hs : (0 : EReal) + ∑ k, Ideal.exp ((l k : EReal) - (M : EReal)) = ((∑ k, Real.exp (l k - M) : ℝ) : EReal) := by
    rw [zero_add, coe_sum]
    exact Finset.sum_congr rfl fun k _ => by rw [← EReal.coe_sub, Ideal.exp_coe]
  have hT : (∑ k, Real.exp (l k)) ≠ 0 := ne_of_gt (Finset.sum_pos (fun k _ => Real.exp_pos _) Finset.univ_nonempty)
  have hM : (∑ k, Real.exp (l k - M)) = (∑ k, Real.exp (l k)) / Real.exp M := by
    rw [Finset.sum_div]
    exact Finset.sum_congr rfl fun k _ => Real.exp_sub _ _
  have hT' : (∑ k, Real.exp (l k - M)) ≠ 0 := by
    rw [hM]; exact div_ne_zero hT (Real.exp_ne_zero M)
  rw [hs, Ideal.div_coe hT', ← EReal.coe_sub, Ideal.exp_coe, ← EReal.coe_mul, hM, Real.exp_sub]
  congr 1
  have := Real.exp_ne_zero M
  field_simp

/-- An exponential times one over the sum of the exponentials. -/
theorem scaled {ι : Type} [Fintype ι] [Nonempty ι] (l : ι → ℝ) (x : ℝ) :
    Ideal.exp (x : EReal) * Ideal.div 1 (∑ k, Ideal.exp (l k : EReal)) = ((Real.exp x / ∑ k, Real.exp (l k) : ℝ) : EReal) := by
  have hs : ∑ k, Ideal.exp (l k : EReal) = ((∑ k, Real.exp (l k) : ℝ) : EReal) := by
    rw [coe_sum]
    exact Finset.sum_congr rfl fun k _ => by rw [Ideal.exp_coe]
  have hT : (∑ k, Real.exp (l k)) ≠ 0 := ne_of_gt (Finset.sum_pos (fun k _ => Real.exp_pos _) Finset.univ_nonempty)
  rw [hs, Ideal.div_coe hT, Ideal.exp_coe, one_mul, ← EReal.coe_mul]
  congr 1
  rw [mul_one_div]

/-- The two agree where the logits and the number subtracted are numbers. -/
theorem agree {ι : Type} [Fintype ι] (l : ι → EReal) (M : EReal) (p : ι) (hl : ∀ k, Num (l k)) (hM : Num M) :
    Ideal.exp (l p) * Ideal.div 1 (∑ k, Ideal.exp (l k))
      = Ideal.div (Ideal.exp (l p - M)) (0 + ∑ k, Ideal.exp (l k - M)) := by
  haveI : Nonempty ι := ⟨p⟩
  choose a ha using hl
  obtain ⟨b, rfl⟩ := hM
  simp only [ha]
  rw [scaled, shifted]

/-! ## The order of the sum -/

/-- Column `j` of block `o`. -/
def col (o : Fin 8) (j : Fin 8192) : Fin 65536 := ⟨8192 * o.val + j.val, by have := o.isLt; have := j.isLt; omega⟩

/-- The sum over the columns, block by block. -/
theorem sum_blocks (f : Fin 65536 → EReal) : ∑ o : Fin 8, ∑ j : Fin 8192, f (col o j) = ∑ k, f k := by
  rw [← Fintype.sum_prod_type' (f := fun o j => f (col o j)), ← Equiv.sum_comp (finProdFinEquiv (m := 8) (n := 8192)) f]
  refine Finset.sum_congr rfl fun x _ => congrArg f (Fin.ext ?_)
  show 8192 * x.1.val + x.2.val = x.2.val + 8192 * x.1.val
  omega

/-- A sum round the ring, from any device on. -/
theorem sum_ring (g : Fin 8 → EReal) (c : Fin 8) : g c + g (c + 7) + g (c + 6) + g (c + 5) + g (c + 4) + g (c + 3) + g (c + 2) + g (c + 1) = ∑ o, g o := by
  rw [← Equiv.sum_comp (Equiv.addLeft c) g, Fin.sum_univ_eight]
  simp only [Equiv.coe_addLeft, add_zero]
  abel

end Cert.Softmax

end
-- ==== Proof.ValueHost.lean ====
module

public import proofs.«01_k».proof.Proof.IdealSched
public import proofs.«01_k».proof.Proof.ValueReal
public import Idealize.ShloMosaic.Lib.Pipeline.Value
public import Idealize.ShloMosaic.Lib.ValueIdx

@[expose] public section

noncomputable section

namespace Cert.KernelIdeal.Ring

open Idealize.ShloMosaic Idealize.ShloMosaic.TcCoe Idealize.ShloMosaic.Tactic Idealize.ShloMosaic.StableHlo
open Idealize.SL.Sem
open Idealize.ShloMosaic.ValueIdx (ix1 ix2)
open Cert.KernelIdeal.Gen
open scoped BigOperators

variable (m : (ℓ : Loc nD τ sig) → Buf (Elt Ideal) ℓ)

/-! ## What a device computes before the kernel, at an index -/

/-- The arguments on device `c`. -/
def argX (c : Dev nD) : S512x1024.Idx → EReal := m ((c : Thread nD τ).loc main_arg0)
def argW (c : Dev nD) : S1024x8192.Idx → EReal := m ((c : Thread nD τ).loc main_arg1)

/-- The logit in row `r` and column `j` of the device's part. -/
def lgt (c : Dev nD) (r : Fin 512) (j : Fin 8192) : EReal := ∑ k : Fin 1024, argX m c (ix2 r k) * argW m c (ix2 k j)

abbrev dotK := dot_S512x1024_S1024x8192_S512x8192_1_0_0_1_n_n

theorem dotK_lhs0 (i : S512x8192.Idx) (q : dotK.contr.Idx) : (dotK.lhsIdx i q 0).val = (i 0).val := by
  unfold DotDims.lhsIdx
  rw [dif_neg (show ¬(0 : Fin S512x1024.rank) ∈ dotK.lhsBatch by decide), dif_pos (show (0 : Fin S512x1024.rank) ∈ dotK.lhsNonContracting by decide)]
  rfl
theorem dotK_rhs1 (i : S512x8192.Idx) (q : dotK.contr.Idx) : (dotK.rhsIdx i q 1).val = (i 1).val := by
  unfold DotDims.rhsIdx
  rw [dif_neg (show ¬(1 : Fin S1024x8192.rank) ∈ dotK.rhsBatch by decide), dif_pos (show (1 : Fin S1024x8192.rank) ∈ dotK.rhsNonContracting by decide)]
  rfl

/-- The product at an index. -/
theorem dotK_at (x : S512x1024.Idx → EReal) (w : S1024x8192.Idx → EReal) (r : Fin 512) (j : Fin 8192) :
    Host.dotGeneral (F := Ideal) (φ₁ := .bf16) (φ₂ := .bf16) dotK none x w (ix2 r j) = ∑ k : Fin 1024, x (ix2 r k) * w (ix2 k j) := by
  simp only [Host.dotGeneral]
  rw [Ideal.dotGeneral_apply, ← Equiv.sum_comp (ValueIdx.contrEquiv1 dotK 1024 rfl rfl).symm]
  refine Finset.sum_congr rfl fun k _ => ?_
  have hk := ValueIdx.contrEquiv1_symm_val dotK 1024 rfl rfl k
  congr 2
  · exact Shape.idx_ext₂ (dotK_lhs0 _ _) ((dotK.lhsIdx_val_of_single rfl _ _).trans hk)
  · exact Shape.idx_ext₂ ((dotK.rhsIdx_val_of_single rfl _ _).trans hk) (dotK_rhs1 _ _)

/-- The sum of a row. -/
theorem row_at (x : S512x8192.Idx → EReal) (i : S512.Idx) :
    Host.reduceAdd (F := Ideal) (φ := .f32) x (constant S_ .f32 0x00000000#32) reducesTo_S512x8192_S512_d1 h_S_ i = ∑ j : Fin 8192, x (ix2 (i 0) j) := by
  simp only [Host.reduceAdd, Ideal.hostReduceAdd_def]
  rw [Ideal.hostReduceAdd_single reducesTo_S512x8192_S512_d1 (by decide)]
  rw [show (constant (F := Ideal) S_ .f32 0x00000000#32) (Shape.Idx.first h_S_) = 0 from Ideal.ofBits_zero_f32, zero_add]
  exact Finset.sum_congr rfl fun k _ => congrArg x (Shape.idx_ext₂ rfl rfl)

theorem bcast128_at (x : S512.Idx → EReal) (i : S512x128.Idx) :
    broadcastInDim S512x128 ![0, 1] bcast_S512x1_S512x128_0_1 (broadcastInDim S512x1 ![0] bcast_S512_S512x1_0 x) i = x (ix1 (i 0)) := by
  refine (broadcastInDim_apply _ bcast_S512x1_S512x128_0_1 _ i (ix2 (i 0) 0) fun a => match a with
    | ⟨0, _⟩ => by show (i 0).val = if (512 : Nat) = 1 then 0 else (i 0).val; rw [if_neg (by decide)]
    | ⟨1, _⟩ => by show 0 = if (1 : Nat) = 1 then 0 else (i 1).val; rw [if_pos rfl]).trans ?_
  exact broadcastInDim_apply _ bcast_S512_S512x1_0 x _ (ix1 (i 0)) fun a => match a with
    | ⟨0, _⟩ => by show (i 0).val = if (512 : Nat) = 1 then 0 else (i 0).val; rw [if_neg (by decide)]

theorem eX_eq (c : Dev nD) : eX m c = truncf .bf16 (Host.exp (F := Ideal) (Host.dotGeneral (φ₁ := .bf16) (φ₂ := .bf16) dotK none (argX m c) (argW m c))) bitsLt_bf16_f32 := by
  show StableHlo.after hostOps0 (fun b => m (c, b)) (main_v3 : DevRef τ sig) = _
  after_results
  rfl

theorem sX_eq (c : Dev nD) : sX m c = broadcastInDim S512x128 ![0, 1] bcast_S512x1_S512x128_0_1 (broadcastInDim S512x1 ![0] bcast_S512_S512x1_0
      (Host.reduceAdd (Host.exp (F := Ideal) (Host.dotGeneral (φ₁ := .bf16) (φ₂ := .bf16) dotK none (argX m c) (argW m c)))
        (constant S_ .f32 0x00000000#32) reducesTo_S512x8192_S512_d1 h_S_)) := by
  show StableHlo.after hostOps0 (fun b => m (c, b)) (main_v6 : DevRef τ sig) = _
  after_results
  rfl

/-- The exponentials. -/
theorem eX_at (c : Dev nD) (r : Fin 512) (j : Fin 8192) : eX m c (ix2 r j) = Ideal.exp (lgt m c r j) := by
  rw [eX_eq]
  show Ideal.exp (Host.dotGeneral (F := Ideal) (φ₁ := .bf16) (φ₂ := .bf16) dotK none (argX m c) (argW m c) (ix2 r j)) = _
  rw [dotK_at]; rfl

/-- The sums of the rows. -/
theorem sX_at (c : Dev nD) (i : S512x128.Idx) : sX m c i = ∑ j : Fin 8192, Ideal.exp (lgt m c (i 0) j) := by
  rw [sX_eq, bcast128_at, row_at]
  exact Finset.sum_congr rfl fun j _ => congrArg Ideal.exp (dotK_at (argX m c) (argW m c) (i 0) j)

end Cert.KernelIdeal.Ring

end
-- ==== Proof.ValueBlock.lean ====
module

public import proofs.«01_k».proof.Proof.IdealOut
public import proofs.«01_k».proof.Proof.ValueHost

@[expose] public section

noncomputable section

namespace Cert.KernelIdeal.Ring

open Idealize.ShloMosaic Idealize.ShloMosaic.TcCoe
open Idealize.SL.Sem
open Idealize.ShloMosaic.ValueIdx (ix1 ix2 ix3)
open Cert.KernelIdeal.Gen
open scoped BigOperators

variable (m : (ℓ : Loc nD τ sig) → Buf (Elt Ideal) ℓ) (c : Dev nD)

/-! ## What the kernel loads and stores, at an index -/

/-- Read through one view what was written through another, where the two meet. -/
theorem read_put {sp sp' : Space} {s s' : Shape} {e : EltTy} (M : View sig .tc sp s e) (N : View sig .tc sp' s' e)
    (f : M.ty.Contents (Elt Ideal)) (X : s.Idx → Elt Ideal e) (G : N.ty.Contents (Elt Ideal)) (x : s.Idx) (y : s'.Idx)
    (h : HEq (M.write (Elt Ideal) f X Finset.univ (M.emb x)) (G (N.emb y))) : N.read (Elt Ideal) G y = X x := by
  rw [View.write_emb_of_mem _ _ (Finset.mem_univ x)] at h
  rw [View.read_apply]
  exact eq_of_heq ((cast_heq _ _).trans (h.symm.trans (cast_heq _ _)))

theorem statV_emb (j : Fin 7) (x : S512x128.Idx) :
    (statV j).view.emb x = (statB.view.slice (statR j)).emb (ix3 0 (x 0) (x 1)) := by
  refine congrArg (statB.view.slice (statR j)).emb (Shape.reshapeEquiv_eq_of_rowMajor _ ?_)
  rw [Shape.rowMajor_val_three, Shape.rowMajor_val_two]
  show (0 * 512 + (x 0).val) * 128 + (x 1).val = (x 0).val * 128 + (x 1).val
  omega

theorem ldStat_at (j : Fin 7) (r : Fin 512) (k : Fin 128) : ldStat m c j (ix3 0 r k) = sX m (rt (7 - j.val) c) (ix2 r k) := by
  refine read_put (statV j).view (statB.view.slice (statR j)) (m ((statV j).view.loc (c : Thread nD τ))) (landedS m c j) _ (ix2 r k) _ ?_
  rw [statV_emb]; rfl

theorem ldOwn_at (i : S512x128.Idx) : ldOwn m c i = sX m c i := by
  refine congrArg (sX m c) (Shape.idx_ext₂ ?_ ?_)
  · show 0 + 1 * (i 0).val = (i 0).val; omega
  · show 0 + 1 * (i 1).val = (i 1).val; omega

/-- Column `k` of half `hf` of a block. -/
def hcol (hf : Fin 2) (k : Fin 4096) : Fin 8192 := ⟨4096 * hf.val + k.val, by have := hf.isLt; have := k.isLt; omega⟩

theorem ldE_at (hf : Fin 2) (r : Fin 512) (k : Fin 4096) : ldE m c hf (ix2 r k) = eX m c (ix2 r (hcol hf k)) := by
  refine congrArg (eX m c) (Shape.idx_ext₂ ?_ ?_)
  · show 0 + 1 * r.val = r.val; omega
  · show 4096 * hf.val + 1 * k.val = 4096 * hf.val + k.val; omega

theorem commV_emb (sl : Fin 2) (x : S512x8192.Idx) :
    (commV sl).view.emb x = (commB.slice (Rect.unit (s := S2x512x8192) ![sl.val, 0, 0] S1x512x8192.size (inbC sl)) (fun _ => rfl)).view.emb (ix3 0 (x 0) (x 1)) := by
  refine congrArg (commB.slice (Rect.unit (s := S2x512x8192) ![sl.val, 0, 0] S1x512x8192.size (inbC sl)) (fun _ => rfl)).view.emb (Shape.reshapeEquiv_eq_of_rowMajor _ ?_)
  rw [Shape.rowMajor_val_three, Shape.rowMajor_val_two]
  show (0 * 512 + (x 0).val) * 8192 + (x 1).val = (x 0).val * 8192 + (x 1).val
  omega

theorem commH_emb (sl hf : Fin 2) (r : Fin 512) (k : Fin 4096) :
    (commV sl).view.emb (ix2 r (hcol hf k)) = (commB.view.slice (commH sl hf)).emb (ix3 0 r k) := by
  rw [commV_emb]
  funext a
  match a with
  | ⟨0, _⟩ => exact Fin.ext (show sl.val + 1 * 0 = sl.val + 1 * 0 from rfl)
  | ⟨1, _⟩ => exact Fin.ext (show 0 + 1 * r.val = 0 + 1 * r.val from rfl)
  | ⟨2, _⟩ => exact Fin.ext (show 0 + 1 * (4096 * hf.val + k.val) = 4096 * hf.val + 1 * k.val by omega)

theorem comm_at (sl hf : Fin 2) (X : S512x8192.Idx → Elt Ideal .bf16) (f : commB.view.ty.Contents (Elt Ideal)) (r : Fin 512) (k : Fin 4096) :
    (commB.view.slice (commH sl hf)).read (Elt Ideal) ((commV sl).view.write (Elt Ideal) f X Finset.univ) (ix3 0 r k) = X (ix2 r (hcol hf k)) := by
  refine read_put (commV sl).view (commB.view.slice (commH sl hf)) f X _ (ix2 r (hcol hf k)) (ix3 0 r k) ?_
  rw [commH_emb]

theorem ldC_at (h : Fin 7) (hf : Fin 2) (r : Fin 512) (k : Fin 4096) :
    ldC m c h hf (ix3 0 r k) = eX m (rt (7 - h.val) c) (ix2 r (hcol hf k)) := by
  unfold ldC commC
  exact comm_at (slotOf h) hf (landedC m c h) _ r k

/-! ### The payloads -/

theorem drop_at {e : Type} (v : S1x512x128.Idx → e) (r : Fin 512) (k : Fin 128) : shapeCast S512x128 v shapeCasts_S1x512x128_S512x128 (ix2 r k) = v (ix3 0 r k) := by
  refine shapeCast_apply _ _ _ _ ?_
  rw [Shape.rowMajor_val_three, Shape.rowMajor_val_two]
  show (0 * 512 + r.val) * 128 + k.val = r.val * 128 + k.val
  omega

theorem dropE_at {e : Type} (v : S1x512x4096.Idx → e) (r : Fin 512) (k : Fin 4096) : shapeCast S512x4096 v shapeCasts_S1x512x4096_S512x4096 (ix2 r k) = v (ix3 0 r k) := by
  refine shapeCast_apply _ _ _ _ ?_
  rw [Shape.rowMajor_val_three, Shape.rowMajor_val_two]
  show (0 * 512 + r.val) * 4096 + k.val = r.val * 4096 + k.val
  omega

theorem addE_at {e : Type} (v : S512x4096.Idx → e) (r : Fin 512) (k : Fin 4096) : shapeCast S1x512x4096 v shapeCasts_S512x4096_S1x512x4096 (ix3 0 r k) = v (ix2 r k) := by
  refine shapeCast_apply _ _ _ _ ?_
  rw [Shape.rowMajor_val_three, Shape.rowMajor_val_two]
  show r.val * 4096 + k.val = (0 * 512 + r.val) * 4096 + k.val
  omega

theorem spread_at {e : Type} (v : S512x1.Idx → e) (r : Fin 512) (k : Fin 4096) : broadcastTo S512x4096 v broadcasts_S512x1_S512x4096 (ix2 r k) = v (ix2 r 0) :=
  broadcastTo_apply _ _ _ _ fun a => match a with
    | ⟨0, _⟩ => by show r.val = if (512 : Nat) = 1 then 0 else r.val; rw [if_neg (by decide)]
    | ⟨1, _⟩ => by show 0 = if (1 : Nat) = 1 then 0 else k.val; rw [if_pos rfl]

theorem pay6_at (v : S512x1.Idx → EReal) (w : S512x4096.Idx → EReal) (r : Fin 512) (k : Fin 4096) :
    k0_pay6 (F := Ideal) v w (ix3 0 r k) = w (ix2 r k) * v (ix2 r 0) := by
  unfold k0_pay6
  rw [addE_at, shapeCast_self]
  show w (ix2 r k) * broadcastTo S512x4096 v broadcasts_S512x1_S512x4096 (ix2 r k) = _
  rw [spread_at]

theorem pay9_at (v : S512x1.Idx → EReal) (w : S1x512x4096.Idx → EReal) (r : Fin 512) (k : Fin 4096) :
    k0_pay9 (F := Ideal) v w (ix3 0 r k) = w (ix3 0 r k) * v (ix2 r 0) := by
  unfold k0_pay9
  rw [addE_at]
  show shapeCast S512x4096 w shapeCasts_S1x512x4096_S512x4096 (ix2 r k) * broadcastTo S512x4096 v broadcasts_S512x1_S512x4096 (ix2 r k) = _
  rw [spread_at, dropE_at]

theorem one_at (i : S512x1.Idx) : broadcast S512x1 (Scalar.ofBits (F := Ideal) .f32 0x3F800000#32) i = 1 := Ideal.ofBits_one_f32

/-- One over the sum of a row, over all the devices. -/
theorem invV_at (r : Fin 512) : invV m c (ix2 r 0) = Ideal.div 1 (∑ o : Dev nD, ∑ j : Fin 8192, Ideal.exp (lgt m o r j)) := by
  have hg : ∀ (k : ℕ), sX m (rt k c) (ix2 r 0) = ∑ j : Fin 8192, Ideal.exp (lgt m (rt k c) r j) := fun k => sX_at m _ _
  have hsum := Cert.Softmax.sum_ring (fun o => ∑ j : Fin 8192, Ideal.exp (lgt m o r j)) c
  have h1 : inv1 m c (ix2 r 0) = sX m c (ix2 r 0) + sX m (rt 7 c) (ix2 r 0) + sX m (rt 6 c) (ix2 r 0) := by
    unfold inv1 k0_pay1
    simp only [ValueIdx.addf_apply, shapeCast_self, drop_at, ldStat_at, ldOwn_at]
    rfl
  have h2 : inv2 m c (ix2 r 0) = inv1 m c (ix2 r 0) + sX m (rt 5 c) (ix2 r 0) + sX m (rt 4 c) (ix2 r 0) + sX m (rt 3 c) (ix2 r 0) := by
    unfold inv2 k0_pay2
    simp only [ValueIdx.addf_apply, drop_at, ldStat_at]
    rfl
  have h3 : invV m c (ix2 r 0) = Ideal.div 1 (inv2 m c (ix2 r 0) + sX m (rt 2 c) (ix2 r 0) + sX m (rt 1 c) (ix2 r 0)) := by
    unfold invV k0_pay3
    have e : ∀ v : S512x128.Idx → EReal, extractStridedSlice S512x1 ![0, 0] v slices_S512x128_o0_0_S512x1 (ix2 r 0) = v (ix2 r 0) := fun v =>
      extractStridedSlice_apply _ _ _ _ _ fun a => match a with
        | ⟨0, _⟩ => by show r.val = 0 + r.val; omega
        | ⟨1, _⟩ => by show 0 = 0 + 0; rfl
    simp only [ValueIdx.divf_apply, e, ValueIdx.addf_apply, drop_at, ldStat_at, one_at]
    rfl
  rw [h3, h2, h1, hg, hg, hg, hg, hg, hg, hg, sX_at m c (ix2 r 0), ← hsum]
  rfl

/-! ### The result -/

theorem blockV_at (n : Fin 16) (r : Fin 512) (k : Fin 4096) : blockV m c n (ix2 r k) = payW m c n (ix3 0 r k) := by
  unfold blockV stageC
  refine read_put (stageB.access (stageR (gSlot n))) (stageV (gSlot n)).view (m ((stageB.access (stageR (gSlot n))).loc (c : Thread nD τ))) (payW m c n) _ (ix3 0 r k) (ix2 r k) ?_
  have e : (stageV (gSlot n)).view.emb (ix2 r k) = (stageB.access (stageR (gSlot n))).emb (ix3 0 r k) := by
    refine congrArg (stageB.access (stageR (gSlot n))).emb (Shape.reshapeEquiv_eq_of_rowMajor _ ?_)
    rw [Shape.rowMajor_val_three, Shape.rowMajor_val_two]
    show (0 * 512 + r.val) * 4096 + k.val = r.val * 4096 + k.val
    omega
  rw [e]

/-- Block `n` of the result on device `c`: half of the exponentials of the device it started from, times one over the sums. -/
theorem payW_at (n : Fin 16) (r : Fin 512) (k : Fin 4096) :
    payW m c n (ix3 0 r k) = eX m (rt (8 - n.val / 2) c) (ix2 r (hcol ⟨n.val % 2, Nat.mod_lt _ (by decide)⟩ k)) * invV m c (ix2 r 0) := by
  unfold payW
  split
  · rename_i h
    rw [pay6_at, ldE_at, show n.val / 2 = 0 by omega, rt_eight]
    congr 3
    exact congrArg (fun x => hcol x k) (Fin.ext (by show n.val = n.val % 2; omega))
  · rename_i h
    rw [pay9_at, ldC_at]
    congr 2
    show rt (7 - (n.val - 2) / 2) c = _
    congr 1
    omega

theorem outF_at_ix (o : Fin 8) (j : Fin 8192) (r : Fin 512) :
    outF m c (ix2 r (Cert.Softmax.col o j)) = Ideal.exp (lgt m o r j) * Ideal.div 1 (∑ d : Dev nD, ∑ k : Fin 8192, Ideal.exp (lgt m d r k)) := by
  have hj := j.isLt
  have ho := o.isLt
  have hc : c.val < 8 := c.isLt
  have hn : (blkOf c (8192 * o.val + j.val)).val = 2 * ((c.val + 8 - o.val) % 8) + j.val / 4096 := by
    show 2 * ((c.val + 8 - (8192 * o.val + j.val) / 8192) % 8) + (8192 * o.val + j.val) / 4096 % 2 = _
    omega
  have hcell : cellIn (ix2 r (Cert.Softmax.col o j)) = ix2 r (⟨j.val % 4096, Nat.mod_lt _ (by decide)⟩ : Fin 4096) := by
    refine Shape.idx_ext₂ rfl ?_
    show (8192 * o.val + j.val) % 4096 = j.val % 4096
    omega
  show blockV m c (blkOf c (8192 * o.val + j.val)) (cellIn (ix2 r (Cert.Softmax.col o j))) = _
  rw [hcell, blockV_at, payW_at, invV_at, eX_at, hn]
  congr 2
  have e1 : rt (8 - (2 * ((c.val + 8 - o.val) % 8) + j.val / 4096) / 2) c = o := by
    apply Fin.ext
    show (c.val + (8 - (2 * ((c.val + 8 - o.val) % 8) + j.val / 4096) / 2)) % 8 = o.val
    omega
  rw [e1]
  congr 1
  apply Fin.ext
  show 4096 * ((2 * ((c.val + 8 - o.val) % 8) + j.val / 4096) % 2) + j.val % 4096 = j.val
  omega

end Cert.KernelIdeal.Ring

end
-- ==== Proof.ValueRef.lean ====
module

public import proofs.«01_k».proof.Proof.ValueReal
public import proofs.«01_k».proof.Proof.Gen.ReferenceIdeal.Read
public import proofs.«01_k».proof.Proof.Gen.Pre_finite_KernelIdeal
public import Idealize.ShloMosaic.Lib.Pipeline.Value
public import Idealize.ShloMosaic.Lib.ValueIdx

@[expose] public section

noncomputable section

namespace Cert.Softmax

open Idealize.ShloMosaic
open Idealize.ShloMosaic.ValueIdx (ix1 ix2)
open scoped BigOperators

/-! ## The reference at an index -/

section Ref
open Cert.ReferenceIdeal Cert.ReferenceIdeal.Gen Cert.ReferenceIdeal.Read

variable (x : S512x1024.Idx → EReal) (w : S1024x65536.Idx → EReal)

/-- The logit in row `r` and column `k`. -/
def logit (r : Fin 512) (k : Fin 65536) : EReal := ∑ q : Fin 1024, x (ix2 r q) * w (ix2 q k)

/-- The rounded product; over the reals a rounding changes nothing. -/
theorem v1_at (i : S512x65536.Idx) : val_main_v1 (F := Ideal) x w i = logit x w (i 0) (i 1) := by
  rw [val_main_v1_apply, val_main_v0_apply]
  refine Finset.sum_congr rfl fun q _ => ?_
  exact congrArg₂ (· * ·) (congrArg x (Shape.idx_ext₂ rfl rfl)) (congrArg w (Shape.idx_ext₂ rfl rfl))

/-- The number subtracted in row `r`. -/
def peak (r : Fin 512) : EReal := val_main_v2 (F := Ideal) x w (ix1 r)

theorem v6_at (i : S512x65536.Idx) : val_main_v6 (F := Ideal) x w i = Ideal.exp (logit x w (i 0) (i 1) - peak x w (i 0)) := by
  rw [val_main_v6_apply, val_main_v5_apply, v1_at, val_main_v4_apply, val_main_v3_apply]
  show Ideal.exp (_ - _) = _
  refine congrArg (fun y => Ideal.exp (logit x w (i 0) (i 1) - y)) (congrArg (val_main_v2 (F := Ideal) x w) ?_)
  funext a
  match a with
  | ⟨0, _⟩ => rfl

theorem v11_at (i : S512x65536.Idx) :
    val_main_v11 (F := Ideal) x w i = 0 + ∑ k : Fin 65536, Ideal.exp (logit x w (i 0) k - peak x w (i 0)) := by
  rw [val_main_v11_apply, val_main_v10_apply, val_main_v9_apply, val_main_v8_apply, val_main_cst_0_apply]
  refine congrArg₂ (· + ·) Ideal.ofBits_zero_f32 (Finset.sum_congr rfl fun k _ => ?_)
  rw [val_main_v7_apply, v6_at]
  rfl

theorem v13_at (r : Fin 512) (p : Fin 65536) : val_main_v13 (F := Ideal) x w (ix2 r p)
    = Ideal.div (Ideal.exp (logit x w r p - peak x w r)) (0 + ∑ k : Fin 65536, Ideal.exp (logit x w r k - peak x w r)) := by
  rw [val_main_v13_apply, val_main_v12_apply, v6_at, v11_at]
  rfl

theorem ofBits_bot : Ideal.ofBits .bf16 0xFF80#16 = ⊥ := by simp [Ideal.ofBits, Ideal.ieee]

instance : Std.Commutative (fun a b : EReal => max a b) := ⟨max_comm⟩
instance : Std.Associative (fun a b : EReal => max a b) := ⟨max_assoc⟩

/-- Where the logits are numbers, so is the greatest of a row. -/
theorem peak_num (h : ∀ r k, Num (logit x w r k)) (r : Fin 512) : Num (peak x w r) := by
  have e : peak x w r = (Finset.univ.filter fun i => reducesTo_S512x65536_S512_d1.drop i = ix1 r).fold max ⊥ (val_main_v1 (F := Ideal) x w) := by
    unfold peak val_main_v2
    refine (Host.reduce_eq_fold (fun a b : EReal => max a b) (val_main_v1 (F := Ideal) x w) _ reducesTo_S512x65536_S512_d1 h_S_ (ix1 r)).trans ?_
    rw [show (val_main_cst (F := Ideal)) (Shape.Idx.first h_S_) = ⊥ from ofBits_bot]
  rw [e]
  refine Num.max (fun i => by rw [v1_at]; exact h _ _) ⟨ix2 r 0, ?_⟩
  rw [Finset.mem_filter]
  refine ⟨Finset.mem_univ _, ?_⟩
  funext b
  match b with
  | ⟨0, _⟩ => rfl

end Ref

/-! ## The precondition -/

section Pre
open Cert.Pre_finite_KernelIdeal Cert.Pre_finite_KernelIdeal.Gen

theorem andi_one {a b : BitVec 1} (h : IntOp.andi a b = 1#1) : a = 1#1 ∧ b = 1#1 := by
  revert a b; decide

theorem foldl_andi {ι : Type} (x : ι → BitVec 1) (l : List ι) (a : BitVec 1) (h : l.foldl (fun r i => IntOp.andi r (x i)) a = 1#1) :
    a = 1#1 ∧ ∀ i ∈ l, x i = 1#1 := by
  induction l generalizing a with
  | nil => exact ⟨h, fun i hi => absurd hi List.not_mem_nil⟩
  | cons b t ih =>
    obtain ⟨h1, h2⟩ := ih _ h
    obtain ⟨h3, h4⟩ := andi_one h1
    exact ⟨h3, fun i hi => (List.mem_cons.mp hi).elim (fun e => e ▸ h4) (h2 i)⟩

/-- An array all of whose elements are below infinity in absolute value. -/
theorem all_num {s t u : Shape} {axes : List (Fin s.rank)} (x : s.Idx → EReal) (top : s.Idx → EReal) (htop : ∀ i, top i = ⊤) (init : u.Idx → BitVec 1) (h : s.ReducesTo axes t) (hu : 0 < u.numel) (j : t.Idx)
    (ht : ∀ a b : t.Idx, a = b) (he : Host.reduce IntOp.andi (fun i => Ideal.cmp .olt (max (x i) (-x i)) (top i)) init h hu j = 1#1) (i : s.Idx) : Num (x i) := by
  rw [Host.reduce_eq_foldl] at he
  have hi := (foldl_andi _ _ _ he).2 i (List.mem_filter.mpr ⟨List.mem_map.mpr ⟨s.rowMajor i, List.mem_finRange _, s.rowMajor.symm_apply_apply i⟩, decide_eq_true (ht _ _)⟩)
  rw [htop] at hi
  have hlt : max (x i) (-x i) < ⊤ := by
    by_contra hn
    simp [Ideal.cmp, hn] at hi
  rw [max_lt_iff] at hlt
  exact Num.of_ne hlt.1.ne fun hb => by rw [hb] at hlt; exact absurd hlt.2 (by simp)

theorem ofBits_top : Ideal.ofBits .f32 0x7F800000#32 = ⊤ := by simp [Ideal.ofBits, Ideal.ieee]

theorem pre_num (x : S512x1024.Idx → EReal) (w : S1024x8192.Idx → EReal)
    (h : Cert.Pre_finite_KernelIdeal.fn (F := Ideal) x w = fun _ => 1#1) : (∀ i, Num (x i)) ∧ ∀ i, Num (w i) := by
  have h0 := andi_one (congrFun h (ValueIdx.ix0))
  have hs : ∀ a b : S_.Idx, a = b := fun a b => funext fun k => k.elim0
  exact ⟨all_num x _ (fun _ => ofBits_top) _ reducesTo_S512x1024_S_d0_1 h_S_ _ hs h0.1, all_num w _ (fun _ => ofBits_top) _ reducesTo_S1024x8192_S_d0_1 h_S_ _ hs h0.2⟩

end Pre

end Cert.Softmax

end
-- ==== Proof.ValueMain.lean ====
module

public import proofs.«01_k».proof.Proof.Frames
public import proofs.«01_k».proof.Proof.ValueBlock
public import proofs.«01_k».proof.Proof.ValueRef

@[expose] public section

noncomputable section

namespace Cert.Proof

open Idealize.ShloMosaic Idealize.ShloMosaic.TcCoe Idealize.SL.Sem
open Idealize.ShloMosaic.ValueIdx (ix1 ix2)
open Cert.KernelIdeal.Ring (argX argW lgt outF outF_at_ix)
open Cert.Softmax
open scoped BigOperators

/-! ## The kernel's array is the reference's -/

section Agree

variable (m : (ℓ : Loc Cert.KernelIdeal.nD Cert.KernelIdeal.τ Cert.KernelIdeal.sig) → Buf (Elt Ideal) ℓ)
variable (x : Cert.ReferenceIdeal.S512x1024.Idx → EReal) (w : Cert.ReferenceIdeal.S1024x65536.Idx → EReal)

/-- A device's logits are the whole array's, in the device's columns. -/
theorem lgt_eq (hx : ∀ c, argX m c = x) (hw : ∀ c, argW m c = Layout.block ⟨2, ![1024, 8192]⟩ ⟨2, ![1024, 65536]⟩ 1 8 c w)
    (o : Fin 8) (r : Fin 512) (j : Fin 8192) : lgt m o r j = logit x w r (col o j) := by
  unfold lgt logit
  refine Finset.sum_congr rfl fun k _ => ?_
  rw [hx o, hw o, Layout.block_apply]
  refine congrArg (fun y => x (ix2 r k) * w y) (Shape.idx_ext₂ ?_ ?_)
  · rw [Layout.Tiles.idx_val]
    rfl
  · rw [Layout.Tiles.idx_val]
    show o.val * 8192 + j.val = 8192 * o.val + j.val
    omega

/-- Every column is in some device's part. -/
theorem col_surj (p : Fin 65536) : ∃ (o : Fin 8) (j : Fin 8192), p = col o j :=
  ⟨⟨p.val / 8192, by omega⟩, ⟨p.val % 8192, by omega⟩, Fin.ext (by show p.val = 8192 * (p.val / 8192) + p.val % 8192; omega)⟩

theorem out_eq (hx : ∀ c, argX m c = x) (hw : ∀ c, argW m c = Layout.block ⟨2, ![1024, 8192]⟩ ⟨2, ![1024, 65536]⟩ 1 8 c w)
    (hnx : ∀ c i, Num (argX m c i)) (hnw : ∀ c i, Num (argW m c i)) (c : Dev Cert.KernelIdeal.nD) :
    (outF m c : Cert.ReferenceIdeal.S512x65536.Idx → EReal) = Cert.ReferenceIdeal.Read.val_main_v13 (F := Ideal) x w := by
  have hl : ∀ r k, Num (logit x w r k) := fun r k => by
    obtain ⟨o, j, rfl⟩ := col_surj k
    rw [← lgt_eq m x w hx hw]
    exact Num.dot (fun q => hnx o _) (fun q => hnw o _)
  have key : ∀ (r : Fin 512) (p : Fin 65536), outF m c (ix2 r p) = Cert.ReferenceIdeal.Read.val_main_v13 (F := Ideal) x w (ix2 r p) := fun r p => by
    obtain ⟨o, j, rfl⟩ := col_surj p
    have hs : (∑ d : Dev Cert.KernelIdeal.nD, ∑ k : Fin 8192, Ideal.exp (lgt m d r k)) = ∑ k, Ideal.exp (logit x w r k) := by
      rw [← sum_blocks fun k => Ideal.exp (logit x w r k)]
      exact Finset.sum_congr rfl fun d _ => Finset.sum_congr rfl fun k _ => by rw [lgt_eq m x w hx hw]
    refine (outF_at_ix m c o j r).trans ?_
    rw [hs, lgt_eq m x w hx hw, v13_at]
    exact agree (fun k => logit x w r k) (peak x w r) (col o j) (hl r) (peak_num x w hl r)
  funext i
  have hi : i = ix2 (i 0) (i 1) := Shape.idx_ext₂ rfl rfl
  rw [hi]
  exact key (i 0) (i 1)

end Agree

/-! ## The algebraic claim -/

theorem algebraic : Cert.algebraic_KernelIdeal_ReferenceIdeal_pre_finite_KernelIdeal := by
  intro m g m' g' hpre hagree
  refine ⟨Cert.ReferenceIdeal.Read.val_main_v13 (F := Ideal)
    (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · refine (θ_run Cert.KernelIdeal.defs _ _).mono (fun r hr c => ⟨(hr.1 c).2.2.trans ?_, (hr.1 c).1, (hr.1 c).2.1⟩) (Cert.KernelIdeal.Ring.run_main (F := Ideal) m g)
    exact out_eq m _ _ (fun d => (hagree d).1) (fun d => (hagree d).2) (fun d => (pre_num _ _ (hpre d)).1) (fun d => (pre_num _ _ (hpre d)).2) c
  · exact (θ_run Cert.ReferenceIdeal.defs _ _).mono (fun r hr => ⟨(hr 0).1.trans (Cert.ReferenceIdeal.Read.val_main_v13_eq (F := Ideal) _ _), (hr 0).2.1, (hr 0).2.2⟩)
      (Cert.ReferenceIdeal.Value.run (F := Ideal) m' g')

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_KernelIdeal
public import proofs.«01_k».proof.Proof.Gen.Pre_finite_ReferenceIdeal
public import proofs.«01_k».proof.Proof.ValueMain
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_KernelIdeal.Gen.facts, Cert.Pre_finite_ReferenceIdeal.Gen.facts,
  frame_Kernel, frame_KernelIdeal, fun m g _ => frame_KernelIdeal m g trivial,
  frame_ReferenceIdeal, fun m g _ => frame_ReferenceIdeal m g trivial, trivial, algebraic⟩

end Cert.Proof

end
